-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_eps" .f32 0x5368D4A5#32 ((2305843009213693952 / 2305843 : ℝ) : EReal)

def algebraic_KernelIdeal_ReferenceIdeal_on_clear_of_edges [hKernelIdeal : Cert.KernelIdeal.Facts] [hReferenceIdeal : Cert.ReferenceIdeal.Facts] [hOn_clear_of_edges : Cert.On_clear_of_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![96, 9, 32, 32]⟩ : Shape).Idx, (Cert.On_clear_of_edges.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![96, 9, 32, 32]⟩ : Shape).Idx, (Cert.On_clear_of_edges.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v100) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_clear_of_edges : Cert.On_clear_of_edges.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear_of_edges (hKernelIdeal := hKernelIdeal) (hReferenceIdeal := hReferenceIdeal) (hOn_clear_of_edges := hOn_clear_of_edges)
-- ==== On_clear_of_edges.lean ====
abbrev S32x3x224x224 : Shape := ⟨4, ![32, 3, 224, 224]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S96x1x32x7x32x7 : Shape := ⟨6, ![96, 1, 32, 7, 32, 7]⟩
abbrev S96x1x32x32 : Shape := ⟨4, ![96, 1, 32, 32]⟩
abbrev S96x9x32x32 : Shape := ⟨4, ![96, 9, 32, 32]⟩

class Facts : Prop where
  slices_S32x3x224x224_S32x3x1x224_0_0_0_0 : S32x3x224x224.Slices ![0, 0, 0, 0] S32x3x1x224
  slices_S32x3x224x224_S32x3x1x224_0_0_1_0 : S32x3x224x224.Slices ![0, 0, 1, 0] S32x3x1x224
  concatenates_S32x3x1x224_S32x3x224x224_S32x3x225x224_d2 : Shape.Concatenates [S32x3x1x224, S32x3x224x224] S32x3x225x224 2
  slices_S32x3x225x224_S32x3x1x224_0_0_224_0 : S32x3x225x224.Slices ![0, 0, 224, 0] S32x3x1x224
  slices_S32x3x225x224_S32x3x1x224_0_0_223_0 : S32x3x225x224.Slices ![0, 0, 223, 0] S32x3x1x224
  concatenates_S32x3x225x224_S32x3x1x224_S32x3x226x224_d2 : Shape.Concatenates [S32x3x225x224, S32x3x1x224] S32x3x226x224 2
  slices_S32x3x226x224_S32x3x226x1_0_0_0_0 : S32x3x226x224.Slices ![0, 0, 0, 0] S32x3x226x1
  slices_S32x3x226x224_S32x3x226x1_0_0_0_1 : S32x3x226x224.Slices ![0, 0, 0, 1] S32x3x226x1
  concatenates_S32x3x226x1_S32x3x226x224_S32x3x226x225_d3 : Shape.Concatenates [S32x3x226x1, S32x3x226x224] S32x3x226x225 3
  slices_S32x3x226x225_S32x3x226x1_0_0_0_224 : S32x3x226x225.Slices ![0, 0, 0, 224] S32x3x226x1
  slices_S32x3x226x225_S32x3x226x1_0_0_0_223 : S32x3x226x225.Slices ![0, 0, 0, 223] S32x3x226x1
  concatenates_S32x3x226x225_S32x3x226x1_S32x3x226x226_d3 : Shape.Concatenates [S32x3x226x225, S32x3x226x1] S32x3x226x226 3
  slices_S32x3x226x226_S32x3x224x224_0_0_0_0 : S32x3x226x226.Slices ![0, 0, 0, 0] S32x3x224x224
  bcast_S_S32x3x224x224 : S_.BroadcastsInDim S32x3x224x224 (![] : Fin 0 → Fin S32x3x224x224.rank)
  slices_S32x3x226x226_S32x3x224x224_0_0_0_1 : S32x3x226x226.Slices ![0, 0, 0, 1] S32x3x224x224
  slices_S32x3x226x226_S32x3x224x224_0_0_0_2 : S32x3x226x226.Slices ![0, 0, 0, 2] S32x3x224x224
  slices_S32x3x226x226_S32x3x224x224_0_0_1_0 : S32x3x226x226.Slices ![0, 0, 1, 0] S32x3x224x224
  slices_S32x3x226x226_S32x3x224x224_0_0_1_1 : S32x3x226x226.Slices ![0, 0, 1, 1] S32x3x224x224
  slices_S32x3x226x226_S32x3x224x224_0_0_1_2 : S32x3x226x226.Slices ![0, 0, 1, 2] S32x3x224x224
  slices_S32x3x226x226_S32x3x224x224_0_0_2_0 : S32x3x226x226.Slices ![0, 0, 2, 0] S32x3x224x224
  slices_S32x3x226x226_S32x3x224x224_0_0_2_1 : S32x3x226x226.Slices ![0, 0, 2, 1] S32x3x224x224
  slices_S32x3x226x226_S32x3x224x224_0_0_2_2 : S32x3x226x226.Slices ![0, 0, 2, 2] S32x3x224x224
  shapeCasts_S32x3x224x224_S96x1x32x7x32x7 : S32x3x224x224.ShapeCasts S96x1x32x7x32x7
  reducesTo_S96x1x32x7x32x7_S96x1x32x32_d3_5 : S96x1x32x7x32x7.ReducesTo [3, 5] S96x1x32x32
  h_S_ : 0 < S_.numel
  bcast_S96x1x32x32_S96x9x32x32_0_1_2_3 : S96x1x32x32.BroadcastsInDim S96x9x32x32 (![0, 1, 2, 3] : Fin 4 → Fin S96x9x32x32.rank)

variable [Facts]

def fn_flip {F : FTy → Type} [FloatOps F] (arg0 : FVec F S32x3x1x224 .f32) : FVec F S32x3x1x224 .f32 :=
  let v0 : FVec F S32x3x1x224 .f32 := Host.reverse [2] arg0
  v0

def fn_flip_0 {F : FTy → Type} [FloatOps F] (arg0 : FVec F S32x3x226x1 .f32) : FVec F S32x3x226x1 .f32 :=
  let v0 : FVec F S32x3x226x1 .f32 := Host.reverse [3] arg0
  v0

def fn_pad {F : FTy → Type} [FloatOps F] (arg0 : FVec F S32x3x224x224 .f32) (arg1 : IVec S_ 32) : FVec F S32x3x226x226 .f32 :=
  let v0 : FVec F S32x3x1x224 .f32 := (extractStridedSlice S32x3x1x224 ![0, 0, 0, 0] · slices_S32x3x224x224_S32x3x1x224_0_0_0_0) arg0
  let v1 : FVec F S32x3x1x224 .f32 := (extractStridedSlice S32x3x1x224 ![0, 0, 1, 0] · slices_S32x3x224x224_S32x3x1x224_0_0_1_0) arg0
  let v2 : FVec F S32x3x1x224 .f32 := fn_flip (F := F) v1
  let v3 : FVec F S32x3x225x224 .f32 := (fun a b => concatenate S32x3x225x224 2 [⟨S32x3x1x224, a⟩, ⟨S32x3x224x224, b⟩] concatenates_S32x3x1x224_S32x3x224x224_S32x3x225x224_d2) v2 arg0
  let v4 : FVec F S32x3x1x224 .f32 := (extractStridedSlice S32x3x1x224 ![0, 0, 224, 0] · slices_S32x3x225x224_S32x3x1x224_0_0_224_0) v3
  let v5 : FVec F S32x3x1x224 .f32 := (extractStridedSlice S32x3x1x224 ![0, 0, 223, 0] · slices_S32x3x225x224_S32x3x1x224_0_0_223_0) v3
  let v6 : FVec F S32x3x1x224 .f32 := fn_flip (F := F) v5
  let v7 : FVec F S32x3x226x224 .f32 := (fun a b => concatenate S32x3x226x224 2 [⟨S32x3x225x224, a⟩, ⟨S32x3x1x224, b⟩] concatenates_S32x3x225x224_S32x3x1x224_S32x3x226x224_d2) v3 v6
  let v8 : FVec F S32x3x226x1 .f32 := (extractStridedSlice S32x3x226x1 ![0, 0, 0, 0] · slices_S32x3x226x224_S32x3x226x1_0_0_0_0) v7
  let v9 : FVec F S32x3x226x1 .f32 := (extractStridedSlice S32x3x226x1 ![0, 0, 0, 1] · slices_S32x3x226x224_S32x3x226x1_0_0_0_1) v7
  let v10 : FVec F S32x3x226x1 .f32 := fn_flip_0 (F := F) v9
  let v11 : FVec F S32x3x226x225 .f32 := (fun a b => concatenate S32x3x226x225 3 [⟨S32x3x226x1, a⟩, ⟨S32x3x226x224, b⟩] concatenates_S32x3x226x1_S32x3x226x224_S32x3x226x225_d3) v10 v7
  let v12 : FVec F S32x3x226x1 .f32 := (extractStridedSlice S32x3x226x1 ![0, 0, 0, 224] · slices_S32x3x226x225_S32x3x226x1_0_0_0_224) v11
  let v13 : FVec F S32x3x226x1 .f32 := (extractStridedSlice S32x3x226x1 ![0, 0, 0, 223] · slices_S32x3x226x225_S32x3x226x1_0_0_0_223) v11
  let v14 : FVec F S32x3x226x1 .f32 := fn_flip_0 (F := F) v13
  let v15 : FVec F S32x3x226x226 .f32 := (fun a b => concatenate S32x3x226x226 3 [⟨S32x3x226x225, a⟩, ⟨S32x3x226x1, b⟩] concatenates_S32x3x226x225_S32x3x226x1_S32x3x226x226_d3) v11 v14
  v15

def fn_part7 {F : FTy → Type} [FloatOps F] (main_v35 : FVec F S32x3x224x224 .f32) (main_v70 : FVec F S32x3x224x224 .f32) (main_v131 : IVec S32x3x224x224 1) (main_v133 : FVec F S32x3x224x224 .f32) : IVec S96x9x32x32 1 :=
  let main_v134 : FVec F S32x3x224x224 .f32 := subf main_v35 main_v133
  let main_v135 : FVec F S32x3x224x224 .f32 := Host.absf main_v134
  let main_v136 : FVec F S32x3x224x224 .f32 := Host.absf main_v133
  let main_cst_32 : FVec F S_ .f32 := constant S_ .f32 0x33D6BF95#32
  let main_v137 : FVec F S32x3x224x224 .f32 := broadcastInDim S32x3x224x224 ![] bcast_S_S32x3x224x224 main_cst_32
  let main_v138 : FVec F S32x3x224x224 .f32 := mulf main_v137 main_v136
  let main_v139 : IVec S32x3x224x224 1 := cmpf .oge main_v135 main_v138
  let main_v140 : IVec S32x3x224x224 1 := andi main_v131 main_v139
  let main_cst_33 : FVec F S_ .f32 := constant S_ .f32 0xBEBA5A4E#32
  let main_v141 : FVec F S32x3x224x224 .f32 := broadcastInDim S32x3x224x224 ![] bcast_S_S32x3x224x224 main_cst_33
  let main_v142 : FVec F S32x3x224x224 .f32 := mulf main_v141 main_v70
  let main_v143 : FVec F S32x3x224x224 .f32 := subf main_v35 main_v142
  let main_v144 : FVec F S32x3x224x224 .f32 := Host.absf main_v143
  let main_v145 : FVec F S32x3x224x224 .f32 := Host.absf main_v142
  let main_cst_34 : FVec F S_ .f32 := constant S_ .f32 0x33D6BF95#32
  let main_v146 : FVec F S32x3x224x224 .f32 := broadcastInDim S32x3x224x224 ![] bcast_S_S32x3x224x224 main_cst_34
  let main_v147 : FVec F S32x3x224x224 .f32 := mulf main_v146 main_v145
  let main_v148 : IVec S32x3x224x224 1 := cmpf .oge main_v144 main_v147
  let main_v149 : IVec S32x3x224x224 1 := andi main_v140 main_v148
  let main_v150 : IVec S96x1x32x7x32x7 1 := shapeCast S96x1x32x7x32x7 main_v149 shapeCasts_S32x3x224x224_S96x1x32x7x32x7
  let main_c_35 : IVec S_ 1 := constantI S_ 1 1#1
  let main_v151 : IVec S96x1x32x32 1 := (fun x v => Host.reduce IntOp.andi x v reducesTo_S96x1x32x7x32x7_S96x1x32x32_d3_5 h_S_) main_v150 main_c_35
  let main_v152 : IVec S96x9x32x32 1 := broadcastInDim S96x9x32x32 ![0, 1, 2, 3] bcast_S96x1x32x32_S96x9x32x32_0_1_2_3 main_v151
  main_v152

def fn_part6 {F : FTy → Type} [FloatOps F] (main_v35 : FVec F S32x3x224x224 .f32) (main_v70 : FVec F S32x3x224x224 .f32) (main_v113 : IVec S32x3x224x224 1) (main_cst_27 : FVec F S_ .f32) : IVec S96x9x32x32 1 :=
  let main_v114 : FVec F S32x3x224x224 .f32 := broadcastInDim S32x3x224x224 ![] bcast_S_S32x3x224x224 main_cst_27
  let main_v115 : FVec F S32x3x224x224 .f32 := mulf main_v114 main_v70
  let main_v116 : FVec F S32x3x224x224 .f32 := subf main_v35 main_v115
  let main_v117 : FVec F S32x3x224x224 .f32 := Host.absf main_v116
  let main_v118 : FVec F S32x3x224x224 .f32 := Host.absf main_v115
  let main_cst_28 : FVec F S_ .f32 := constant S_ .f32 0x33D6BF95#32
  let main_v119 : FVec F S32x3x224x224 .f32 := broadcastInDim S32x3x224x224 ![] bcast_S_S32x3x224x224 main_cst_28
  let main_v120 : FVec F S32x3x224x224 .f32 := mulf main_v119 main_v118
  let main_v121 : IVec S32x3x224x224 1 := cmpf .oge main_v117 main_v120
  let main_v122 : IVec S32x3x224x224 1 := andi main_v113 main_v121
  let main_cst_29 : FVec F S_ .f32 := constant S_ .f32 0xBFDDB3D7#32
  let main_v123 : FVec F S32x3x224x224 .f32 := broadcastInDim S32x3x224x224 ![] bcast_S_S32x3x224x224 main_cst_29
  let main_v124 : FVec F S32x3x224x224 .f32 := mulf main_v123 main_v70
  let main_v125 : FVec F S32x3x224x224 .f32 := subf main_v35 main_v124
  let main_v126 : FVec F S32x3x224x224 .f32 := Host.absf main_v125
  let main_v127 : FVec F S32x3x224x224 .f32 := Host.absf main_v124
  let main_cst_30 : FVec F S_ .f32 := constant S_ .f32 0x33D6BF95#32
  let main_v128 : FVec F S32x3x224x224 .f32 := broadcastInDim S32x3x224x224 ![] bcast_S_S32x3x224x224 main_cst_30
  let main_v129 : FVec F S32x3x224x224 .f32 := mulf main_v128 main_v127
  let main_v130 : IVec S32x3x224x224 1 := cmpf .oge main_v126 main_v129
  let main_v131 : IVec S32x3x224x224 1 := andi main_v122 main_v130
  let main_cst_31 : FVec F S_ .f32 := constant S_ .f32 0xBF56CF3C#32
  let main_v132 : FVec F S32x3x224x224 .f32 := broadcastInDim S32x3x224x224 ![] bcast_S_S32x3x224x224 main_cst_31
  let main_v133 : FVec F S32x3x224x224 .f32 := mulf main_v132 main_v70
  fn_part7 (F := F) main_v35 main_v70 main_v131 main_v133

def fn_part5 {F : FTy → Type} [FloatOps F] (main_v35 : FVec F S32x3x224x224 .f32) (main_v70 : FVec F S32x3x224x224 .f32) (main_v86 : IVec S32x3x224x224 1) (main_v94 : IVec S32x3x224x224 1) : IVec S96x9x32x32 1 :=
  let main_v95 : IVec S32x3x224x224 1 := andi main_v86 main_v94
  let main_cst_23 : FVec F S_ .f32 := constant S_ .f32 0x3FDDB3D7#32
  let main_v96 : FVec F S32x3x224x224 .f32 := broadcastInDim S32x3x224x224 ![] bcast_S_S32x3x224x224 main_cst_23
  let main_v97 : FVec F S32x3x224x224 .f32 := mulf main_v96 main_v70
  let main_v98 : FVec F S32x3x224x224 .f32 := subf main_v35 main_v97
  let main_v99 : FVec F S32x3x224x224 .f32 := Host.absf main_v98
  let main_v100 : FVec F S32x3x224x224 .f32 := Host.absf main_v97
  let main_cst_24 : FVec F S_ .f32 := constant S_ .f32 0x33D6BF95#32
  let main_v101 : FVec F S32x3x224x224 .f32 := broadcastInDim S32x3x224x224 ![] bcast_S_S32x3x224x224 main_cst_24
  let main_v102 : FVec F S32x3x224x224 .f32 := mulf main_v101 main_v100
  let main_v103 : IVec S32x3x224x224 1 := cmpf .oge main_v99 main_v102
  let main_v104 : IVec S32x3x224x224 1 := andi main_v95 main_v103
  let main_cst_25 : FVec F S_ .f32 := constant S_ .f32 0x40B57B24#32
  let main_v105 : FVec F S32x3x224x224 .f32 := broadcastInDim S32x3x224x224 ![] bcast_S_S32x3x224x224 main_cst_25
  let main_v106 : FVec F S32x3x224x224 .f32 := mulf main_v105 main_v70
  let main_v107 : FVec F S32x3x224x224 .f32 := subf main_v35 main_v106
  let main_v108 : FVec F S32x3x224x224 .f32 := Host.absf main_v107
  let main_v109 : FVec F S32x3x224x224 .f32 := Host.absf main_v106
  let main_cst_26 : FVec F S_ .f32 := constant S_ .f32 0x33D6BF95#32
  let main_v110 : FVec F S32x3x224x224 .f32 := broadcastInDim S32x3x224x224 ![] bcast_S_S32x3x224x224 main_cst_26
  let main_v111 : FVec F S32x3x224x224 .f32 := mulf main_v110 main_v109
  let main_v112 : IVec S32x3x224x224 1 := cmpf .oge main_v108 main_v111
  let main_v113 : IVec S32x3x224x224 1 := andi main_v104 main_v112
  let main_cst_27 : FVec F S_ .f32 := constant S_ .f32 0xC0B57B24#32
  fn_part6 (F := F) main_v35 main_v70 main_v113 main_cst_27

def fn_part4 {F : FTy → Type} [FloatOps F] (main_v35 : FVec F S32x3x224x224 .f32) (main_v70 : FVec F S32x3x224x224 .f32) (main_v73 : IVec S32x3x224x224 1) (main_v74 : FVec F S32x3x224x224 .f32) (main_cst_18 : FVec F S_ .f32) : IVec S96x9x32x32 1 :=
  let main_v75 : FVec F S32x3x224x224 .f32 := broadcastInDim S32x3x224x224 ![] bcast_S_S32x3x224x224 main_cst_18
  let main_v76 : IVec S32x3x224x224 1 := cmpf .olt main_v74 main_v75
  let main_v77 : IVec S32x3x224x224 1 := andi main_v73 main_v76
  let main_cst_19 : FVec F S_ .f32 := constant S_ .f32 0x3EBA5A4E#32
  let main_v78 : FVec F S32x3x224x224 .f32 := broadcastInDim S32x3x224x224 ![] bcast_S_S32x3x224x224 main_cst_19
  let main_v79 : FVec F S32x3x224x224 .f32 := mulf main_v78 main_v70
  let main_v80 : FVec F S32x3x224x224 .f32 := subf main_v35 main_v79
  let main_v81 : FVec F S32x3x224x224 .f32 := Host.absf main_v80
  let main_v82 : FVec F S32x3x224x224 .f32 := Host.absf main_v79
  let main_cst_20 : FVec F S_ .f32 := constant S_ .f32 0x33D6BF95#32
  let main_v83 : FVec F S32x3x224x224 .f32 := broadcastInDim S32x3x224x224 ![] bcast_S_S32x3x224x224 main_cst_20
  let main_v84 : FVec F S32x3x224x224 .f32 := mulf main_v83 main_v82
  let main_v85 : IVec S32x3x224x224 1 := cmpf .oge main_v81 main_v84
  let main_v86 : IVec S32x3x224x224 1 := andi main_v77 main_v85
  let main_cst_21 : FVec F S_ .f32 := constant S_ .f32 0x3F56CF3C#32
  let main_v87 : FVec F S32x3x224x224 .f32 := broadcastInDim S32x3x224x224 ![] bcast_S_S32x3x224x224 main_cst_21
  let main_v88 : FVec F S32x3x224x224 .f32 := mulf main_v87 main_v70
  let main_v89 : FVec F S32x3x224x224 .f32 := subf main_v35 main_v88
  let main_v90 : FVec F S32x3x224x224 .f32 := Host.absf main_v89
  let main_v91 : FVec F S32x3x224x224 .f32 := Host.absf main_v88
  let main_cst_22 : FVec F S_ .f32 := constant S_ .f32 0x33D6BF95#32
  let main_v92 : FVec F S32x3x224x224 .f32 := broadcastInDim S32x3x224x224 ![] bcast_S_S32x3x224x224 main_cst_22
  let main_v93 : FVec F S32x3x224x224 .f32 := mulf main_v92 main_v91
  let main_v94 : IVec S32x3x224x224 1 := cmpf .oge main_v90 main_v93
  fn_part5 (F := F) main_v35 main_v70 main_v86 main_v94

def fn_part3 {F : FTy → Type} [FloatOps F] (main_v0 : FVec F S32x3x226x226 .f32) (main_v35 : FVec F S32x3x224x224 .f32) (main_v38 : FVec F S32x3x224x224 .f32) (main_v41 : FVec F S32x3x224x224 .f32) (main_v44 : FVec F S32x3x224x224 .f32) (main_v47 : FVec F S32x3x224x224 .f32) (main_v50 : FVec F S32x3x224x224 .f32) (main_v53 : FVec F S32x3x224x224 .f32) (main_v54 : FVec F S32x3x224x224 .f32) (main_cst_14 : FVec F S_ .f32) : IVec S96x9x32x32 1 :=
  let main_v55 : FVec F S32x3x224x224 .f32 := broadcastInDim S32x3x224x224 ![] bcast_S_S32x3x224x224 main_cst_14
  let main_v56 : FVec F S32x3x224x224 .f32 := mulf main_v55 main_v54
  let main_v57 : FVec F S32x3x224x224 .f32 := (extractStridedSlice S32x3x224x224 ![0, 0, 2, 1] · slices_S32x3x226x226_S32x3x224x224_0_0_2_1) main_v0
  let main_cst_15 : FVec F S_ .f32 := constant S_ .f32 0xC0000000#32
  let main_v58 : FVec F S32x3x224x224 .f32 := broadcastInDim S32x3x224x224 ![] bcast_S_S32x3x224x224 main_cst_15
  let main_v59 : FVec F S32x3x224x224 .f32 := mulf main_v58 main_v57
  let main_v60 : FVec F S32x3x224x224 .f32 := (extractStridedSlice S32x3x224x224 ![0, 0, 2, 2] · slices_S32x3x226x226_S32x3x224x224_0_0_2_2) main_v0
  let main_cst_16 : FVec F S_ .f32 := constant S_ .f32 0xBF800000#32
  let main_v61 : FVec F S32x3x224x224 .f32 := broadcastInDim S32x3x224x224 ![] bcast_S_S32x3x224x224 main_cst_16
  let main_v62 : FVec F S32x3x224x224 .f32 := mulf main_v61 main_v60
  let main_v63 : FVec F S32x3x224x224 .f32 := addf main_v38 main_v41
  let main_v64 : FVec F S32x3x224x224 .f32 := addf main_v63 main_v44
  let main_v65 : FVec F S32x3x224x224 .f32 := addf main_v64 main_v47
  let main_v66 : FVec F S32x3x224x224 .f32 := addf main_v65 main_v50
  let main_v67 : FVec F S32x3x224x224 .f32 := addf main_v66 main_v53
  let main_v68 : FVec F S32x3x224x224 .f32 := addf main_v67 main_v56
  let main_v69 : FVec F S32x3x224x224 .f32 := addf main_v68 main_v59
  let main_v70 : FVec F S32x3x224x224 .f32 := addf main_v69 main_v62
  let main_v71 : FVec F S32x3x224x224 .f32 := Host.absf main_v35
  let main_cst_17 : FVec F S_ .f32 := constant S_ .f32 0x7F800000#32
  let main_v72 : FVec F S32x3x224x224 .f32 := broadcastInDim S32x3x224x224 ![] bcast_S_S32x3x224x224 main_cst_17
  let main_v73 : IVec S32x3x224x224 1 := cmpf .olt main_v71 main_v72
  let main_v74 : FVec F S32x3x224x224 .f32 := Host.absf main_v70
  let main_cst_18 : FVec F S_ .f32 := constant S_ .f32 0x7F800000#32
  fn_part4 (F := F) main_v35 main_v70 main_v73 main_v74 main_cst_18

def fn_part2 {F : FTy → Type} [FloatOps F] (main_v0 : FVec F S32x3x226x226 .f32) (main_v35 : FVec F S32x3x224x224 .f32) (main_v36 : FVec F S32x3x224x224 .f32) (main_cst_8 : FVec F S_ .f32) : IVec S96x9x32x32 1 :=
  let main_v37 : FVec F S32x3x224x224 .f32 := broadcastInDim S32x3x224x224 ![] bcast_S_S32x3x224x224 main_cst_8
  let main_v38 : FVec F S32x3x224x224 .f32 := mulf main_v37 main_v36
  let main_v39 : FVec F S32x3x224x224 .f32 := (extractStridedSlice S32x3x224x224 ![0, 0, 0, 1] · slices_S32x3x226x226_S32x3x224x224_0_0_0_1) main_v0
  let main_cst_9 : FVec F S_ .f32 := constant S_ .f32 0x40000000#32
  let main_v40 : FVec F S32x3x224x224 .f32 := broadcastInDim S32x3x224x224 ![] bcast_S_S32x3x224x224 main_cst_9
  let main_v41 : FVec F S32x3x224x224 .f32 := mulf main_v40 main_v39
  let main_v42 : FVec F S32x3x224x224 .f32 := (extractStridedSlice S32x3x224x224 ![0, 0, 0, 2] · slices_S32x3x226x226_S32x3x224x224_0_0_0_2) main_v0
  let main_cst_10 : FVec F S_ .f32 := constant S_ .f32 0x3F800000#32
  let main_v43 : FVec F S32x3x224x224 .f32 := broadcastInDim S32x3x224x224 ![] bcast_S_S32x3x224x224 main_cst_10
  let main_v44 : FVec F S32x3x224x224 .f32 := mulf main_v43 main_v42
  let main_v45 : FVec F S32x3x224x224 .f32 := (extractStridedSlice S32x3x224x224 ![0, 0, 1, 0] · slices_S32x3x226x226_S32x3x224x224_0_0_1_0) main_v0
  let main_cst_11 : FVec F S_ .f32 := constant S_ .f32 0x00000000#32
  let main_v46 : FVec F S32x3x224x224 .f32 := broadcastInDim S32x3x224x224 ![] bcast_S_S32x3x224x224 main_cst_11
  let main_v47 : FVec F S32x3x224x224 .f32 := mulf main_v46 main_v45
  let main_v48 : FVec F S32x3x224x224 .f32 := (extractStridedSlice S32x3x224x224 ![0, 0, 1, 1] · slices_S32x3x226x226_S32x3x224x224_0_0_1_1) main_v0
  let main_cst_12 : FVec F S_ .f32 := constant S_ .f32 0x00000000#32
  let main_v49 : FVec F S32x3x224x224 .f32 := broadcastInDim S32x3x224x224 ![] bcast_S_S32x3x224x224 main_cst_12
  let main_v50 : FVec F S32x3x224x224 .f32 := mulf main_v49 main_v48
  let main_v51 : FVec F S32x3x224x224 .f32 := (extractStridedSlice S32x3x224x224 ![0, 0, 1, 2] · slices_S32x3x226x226_S32x3x224x224_0_0_1_2) main_v0
  let main_cst_13 : FVec F S_ .f32 := constant S_ .f32 0x00000000#32
  let main_v52 : FVec F S32x3x224x224 .f32 := broadcastInDim S32x3x224x224 ![] bcast_S_S32x3x224x224 main_cst_13
  let main_v53 : FVec F S32x3x224x224 .f32 := mulf main_v52 main_v51
  let main_v54 : FVec F S32x3x224x224 .f32 := (extractStridedSlice S32x3x224x224 ![0, 0, 2, 0] · slices_S32x3x226x226_S32x3x224x224_0_0_2_0) main_v0
  let main_cst_14 : FVec F S_ .f32 := constant S_ .f32 0xBF800000#32
  fn_part3 (F := F) main_v0 main_v35 main_v38 main_v41 main_v44 main_v47 main_v50 main_v53 main_v54 main_cst_14

def fn_part1 {F : FTy → Type} [FloatOps F] (main_v0 : FVec F S32x3x226x226 .f32) (main_v3 : FVec F S32x3x224x224 .f32) (main_v6 : FVec F S32x3x224x224 .f32) (main_v9 : FVec F S32x3x224x224 .f32) (main_v12 : FVec F S32x3x224x224 .f32) (main_v15 : FVec F S32x3x224x224 .f32) (main_v16 : FVec F S32x3x224x224 .f32) (main_cst_4 : FVec F S_ .f32) : IVec S96x9x32x32 1 :=
  let main_v17 : FVec F S32x3x224x224 .f32 := broadcastInDim S32x3x224x224 ![] bcast_S_S32x3x224x224 main_cst_4
  let main_v18 : FVec F S32x3x224x224 .f32 := mulf main_v17 main_v16
  let main_v19 : FVec F S32x3x224x224 .f32 := (extractStridedSlice S32x3x224x224 ![0, 0, 2, 0] · slices_S32x3x226x226_S32x3x224x224_0_0_2_0) main_v0
  let main_cst_5 : FVec F S_ .f32 := constant S_ .f32 0x3F800000#32
  let main_v20 : FVec F S32x3x224x224 .f32 := broadcastInDim S32x3x224x224 ![] bcast_S_S32x3x224x224 main_cst_5
  let main_v21 : FVec F S32x3x224x224 .f32 := mulf main_v20 main_v19
  let main_v22 : FVec F S32x3x224x224 .f32 := (extractStridedSlice S32x3x224x224 ![0, 0, 2, 1] · slices_S32x3x226x226_S32x3x224x224_0_0_2_1) main_v0
  let main_cst_6 : FVec F S_ .f32 := constant S_ .f32 0x00000000#32
  let main_v23 : FVec F S32x3x224x224 .f32 := broadcastInDim S32x3x224x224 ![] bcast_S_S32x3x224x224 main_cst_6
  let main_v24 : FVec F S32x3x224x224 .f32 := mulf main_v23 main_v22
  let main_v25 : FVec F S32x3x224x224 .f32 := (extractStridedSlice S32x3x224x224 ![0, 0, 2, 2] · slices_S32x3x226x226_S32x3x224x224_0_0_2_2) main_v0
  let main_cst_7 : FVec F S_ .f32 := constant S_ .f32 0xBF800000#32
  let main_v26 : FVec F S32x3x224x224 .f32 := broadcastInDim S32x3x224x224 ![] bcast_S_S32x3x224x224 main_cst_7
  let main_v27 : FVec F S32x3x224x224 .f32 := mulf main_v26 main_v25
  let main_v28 : FVec F S32x3x224x224 .f32 := addf main_v3 main_v6
  let main_v29 : FVec F S32x3x224x224 .f32 := addf main_v28 main_v9
  let main_v30 : FVec F S32x3x224x224 .f32 := addf main_v29 main_v12
  let main_v31 : FVec F S32x3x224x224 .f32 := addf main_v30 main_v15
  let main_v32 : FVec F S32x3x224x224 .f32 := addf main_v31 main_v18
  let main_v33 : FVec F S32x3x224x224 .f32 := addf main_v32 main_v21
  let main_v34 : FVec F S32x3x224x224 .f32 := addf main_v33 main_v24
  let main_v35 : FVec F S32x3x224x224 .f32 := addf main_v34 main_v27
  let main_v36 : FVec F S32x3x224x224 .f32 := (extractStridedSlice S32x3x224x224 ![0, 0, 0, 0] · slices_S32x3x226x226_S32x3x224x224_0_0_0_0) main_v0
  let main_cst_8 : FVec F S_ .f32 := constant S_ .f32 0x3F800000#32
  fn_part2 (F := F) main_v0 main_v35 main_v36 main_cst_8

def fn {F : FTy → Type} [FloatOps F] (main_arg0 : FVec F S32x3x224x224 .f32) : IVec S96x9x32x32 1 :=
  let main_c : IVec S_ 32 := constantI S_ 32 0#32
  let main_v0 : FVec F S32x3x226x226 .f32 := fn_pad (F := F) main_arg0 main_c
  let main_v1 : FVec F S32x3x224x224 .f32 := (extractStridedSlice S32x3x224x224 ![0, 0, 0, 0] · slices_S32x3x226x226_S32x3x224x224_0_0_0_0) main_v0
  let main_cst : FVec F S_ .f32 := constant S_ .f32 0x3F800000#32
  let main_v2 : FVec F S32x3x224x224 .f32 := broadcastInDim S32x3x224x224 ![] bcast_S_S32x3x224x224 main_cst
  let main_v3 : FVec F S32x3x224x224 .f32 := mulf main_v2 main_v1
  let main_v4 : FVec F S32x3x224x224 .f32 := (extractStridedSlice S32x3x224x224 ![0, 0, 0, 1] · slices_S32x3x226x226_S32x3x224x224_0_0_0_1) main_v0
  let main_cst_0 : FVec F S_ .f32 := constant S_ .f32 0x00000000#32
  let main_v5 : FVec F S32x3x224x224 .f32 := broadcastInDim S32x3x224x224 ![] bcast_S_S32x3x224x224 main_cst_0
  let main_v6 : FVec F S32x3x224x224 .f32 := mulf main_v5 main_v4
  let main_v7 : FVec F S32x3x224x224 .f32 := (extractStridedSlice S32x3x224x224 ![0, 0, 0, 2] · slices_S32x3x226x226_S32x3x224x224_0_0_0_2) main_v0
  let main_cst_1 : FVec F S_ .f32 := constant S_ .f32 0xBF800000#32
  let main_v8 : FVec F S32x3x224x224 .f32 := broadcastInDim S32x3x224x224 ![] bcast_S_S32x3x224x224 main_cst_1
  let main_v9 : FVec F S32x3x224x224 .f32 := mulf main_v8 main_v7
  let main_v10 : FVec F S32x3x224x224 .f32 := (extractStridedSlice S32x3x224x224 ![0, 0, 1, 0] · slices_S32x3x226x226_S32x3x224x224_0_0_1_0) main_v0
  let main_cst_2 : FVec F S_ .f32 := constant S_ .f32 0x40000000#32
  let main_v11 : FVec F S32x3x224x224 .f32 := broadcastInDim S32x3x224x224 ![] bcast_S_S32x3x224x224 main_cst_2
  let main_v12 : FVec F S32x3x224x224 .f32 := mulf main_v11 main_v10
  let main_v13 : FVec F S32x3x224x224 .f32 := (extractStridedSlice S32x3x224x224 ![0, 0, 1, 1] · slices_S32x3x226x226_S32x3x224x224_0_0_1_1) main_v0
  let main_cst_3 : FVec F S_ .f32 := constant S_ .f32 0x00000000#32
  let main_v14 : FVec F S32x3x224x224 .f32 := broadcastInDim S32x3x224x224 ![] bcast_S_S32x3x224x224 main_cst_3
  let main_v15 : FVec F S32x3x224x224 .f32 := mulf main_v14 main_v13
  let main_v16 : FVec F S32x3x224x224 .f32 := (extractStridedSlice S32x3x224x224 ![0, 0, 1, 2] · slices_S32x3x226x226_S32x3x224x224_0_0_1_2) main_v0
  let main_cst_4 : FVec F S_ .f32 := constant S_ .f32 0xC0000000#32
  fn_part1 (F := F) main_v0 main_v3 main_v6 main_v9 main_v12 main_v15 main_v16 main_cst_4
-- ==== Kernel.lean ====
abbrev S32x3x224x224 : Shape := ⟨4, ![32, 3, 224, 224]⟩
abbrev S224x224 : Shape := ⟨2, ![224, 224]⟩
abbrev S224x32 : Shape := ⟨2, ![224, 32]⟩
abbrev S96x224x224 : Shape := ⟨3, ![96, 224, 224]⟩
abbrev S32x224 : Shape := ⟨2, ![32, 224]⟩
abbrev S96x9x32x32 : Shape := ⟨4, ![96, 9, 32, 32]⟩
abbrev S3x224x224 : Shape := ⟨3, ![3, 224, 224]⟩
abbrev S3x9x32x32 : Shape := ⟨4, ![3, 9, 32, 32]⟩
abbrev S1x224x224 : Shape := ⟨3, ![1, 224, 224]⟩
abbrev S224x1 : Shape := ⟨2, ![224, 1]⟩
abbrev S224x223 : Shape := ⟨2, ![224, 223]⟩
abbrev S288x224 : Shape := ⟨2, ![288, 224]⟩
abbrev S288x32 : Shape := ⟨2, ![288, 32]⟩
abbrev S32x32 : Shape := ⟨2, ![32, 32]⟩
abbrev S1x1x32x32 : Shape := ⟨4, ![1, 1, 32, 32]⟩

abbrev nBuf : Space → Nat
  | .hbm => 7
  | .vmem => 8
  | .smem => 0
  | _ => 0

abbrev bufTy : (tb : Table) → Fin (tcTables nBuf tb) → BufTy
  | .hbm, ⟨0, _⟩ => ⟨S32x3x224x224, .f32⟩
  | .hbm, ⟨1, _⟩ => ⟨S224x224, .bf16⟩
  | .hbm, ⟨2, _⟩ => ⟨S224x224, .bf16⟩
  | .hbm, ⟨3, _⟩ => ⟨S224x32, .f32⟩
  | .hbm, ⟨4, _⟩ => ⟨S96x224x224, .f32⟩
  | .hbm, ⟨5, _⟩ => ⟨S32x224, .f32⟩
  | .hbm, ⟨6, _⟩ => ⟨S96x9x32x32, .f32⟩
  | .local _ .vmem, ⟨0, _⟩ => ⟨S3x224x224, .f32⟩
  | .local _ .vmem, ⟨1, _⟩ => ⟨S3x224x224, .f32⟩
  | .local _ .vmem, ⟨2, _⟩ => ⟨S224x224, .bf16⟩
  | .local _ .vmem, ⟨3, _⟩ => ⟨S224x224, .bf16⟩
  | .local _ .vmem, ⟨4, _⟩ => ⟨S224x32, .f32⟩
  | .local _ .vmem, ⟨5, _⟩ => ⟨S32x224, .f32⟩
  | .local _ .vmem, ⟨6, _⟩ => ⟨S3x9x32x32, .f32⟩
  | .local _ .vmem, ⟨7, _⟩ => ⟨S3x9x32x32, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x9x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_eps" => some ((2305843009213693952 / 2305843 : ℝ) : EReal)
  | _ => none
-- ==== ReferenceIdeal.lean ====
abbrev S32x3x224x224 : Shape := ⟨4, ![32, 3, 224, 224]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S9 : Shape := ⟨1, ![9]⟩
abbrev S1x1x9x1x1 : Shape := ⟨5, ![1, 1, 9, 1, 1]⟩
abbrev S32x3x1x224x224 : Shape := ⟨5, ![32, 3, 1, 224, 224]⟩
abbrev S32x3x9x224x224 : Shape := ⟨5, ![32, 3, 9, 224, 224]⟩
abbrev S32x3x9x32x7x32x7 : Shape := ⟨7, ![32, 3, 9, 32, 7, 32, 7]⟩
abbrev S32x3x9x32x32 : Shape := ⟨5, ![32, 3, 9, 32, 32]⟩
abbrev S32x3x32x32 : Shape := ⟨4, ![32, 3, 32, 32]⟩
abbrev S32x3x1x32x32 : Shape := ⟨5, ![32, 3, 1, 32, 32]⟩
abbrev S96x9x32x32 : Shape := ⟨4, ![96, 9, 32, 32]⟩

abbrev nBuf : Space → Nat
  | .hbm => 170
  | .vmem => 0
  | .smem => 0
  | _ => 0

abbrev hbmTy0_0 (i : Nat) : BufTy := match i % 128 with
  | 0 => ⟨S32x3x224x224, .f32⟩
  | 1 => ⟨S_, .f32⟩
  | 2 => ⟨S_, .f32⟩
  | 3 => ⟨S_, .f32⟩
  | 4 => ⟨S_, .i32⟩
  | 5 => ⟨S32x3x1x224, .f32⟩
  | 6 => ⟨S32x3x1x224, .f32⟩
  | 7 => ⟨S32x3x1x224, .f32⟩
  | 8 => ⟨S32x3x225x224, .f32⟩
  | 9 => ⟨S32x3x1x224, .f32⟩
  | 10 => ⟨S32x3x1x224, .f32⟩
  | 11 => ⟨S32x3x1x224, .f32⟩
  | 12 => ⟨S32x3x226x224, .f32⟩
  | 13 => ⟨S32x3x226x1, .f32⟩
  | 14 => ⟨S32x3x226x1, .f32⟩
  | 15 => ⟨S32x3x226x1, .f32⟩
  | 16 => ⟨S32x3x226x225, .f32⟩
  | 17 => ⟨S32x3x226x1, .f32⟩
  | 18 => ⟨S32x3x226x1, .f32⟩
  | 19 => ⟨S32x3x226x1, .f32⟩
  | 20 => ⟨S32x3x226x226, .f32⟩
  | 21 => ⟨S32x3x224x224, .f32⟩
  | 22 => ⟨S_, .f32⟩
  | 23 => ⟨S32x3x224x224, .f32⟩
  | 24 => ⟨S32x3x224x224, .f32⟩
  | 25 => ⟨S32x3x224x224, .f32⟩
  | 26 => ⟨S_, .f32⟩
  | 27 => ⟨S32x3x224x224, .f32⟩
  | 28 => ⟨S32x3x224x224, .f32⟩
  | 29 => ⟨S32x3x224x224, .f32⟩
  | 30 => ⟨S_, .f32⟩
  | 31 => ⟨S32x3x224x224, .f32⟩
  | 32 => ⟨S32x3x224x224, .f32⟩
  | 33 => ⟨S32x3x224x224, .f32⟩
  | 34 => ⟨S_, .f32⟩
  | 35 => ⟨S32x3x224x224, .f32⟩
  | 36 => ⟨S32x3x224x224, .f32⟩
  | 37 => ⟨S32x3x224x224, .f32⟩
  | 38 => ⟨S_, .f32⟩
  | 39 => ⟨S32x3x224x224, .f32⟩
  | 40 => ⟨S32x3x224x224, .f32⟩
  | 41 => ⟨S32x3x224x224, .f32⟩
  | 42 => ⟨S_, .f32⟩
  | 43 => ⟨S32x3x224x224, .f32⟩
  | 44 => ⟨S32x3x224x224, .f32⟩
  | 45 => ⟨S32x3x224x224, .f32⟩
  | 46 => ⟨S_, .f32⟩
  | 47 => ⟨S32x3x224x224, .f32⟩
  | 48 => ⟨S32x3x224x224, .f32⟩
  | 49 => ⟨S32x3x224x224, .f32⟩
  | 50 => ⟨S_, .f32⟩
  | 51 => ⟨S32x3x224x224, .f32⟩
  | 52 => ⟨S32x3x224x224, .f32⟩
  | 53 => ⟨S32x3x224x224, .f32⟩
  | 54 => ⟨S_, .f32⟩
  | 55 => ⟨S32x3x224x224, .f32⟩
  | 56 => ⟨S32x3x224x224, .f32⟩
  | 57 => ⟨S32x3x224x224, .f32⟩
  | 58 => ⟨S32x3x224x224, .f32⟩
  | 59 => ⟨S32x3x224x224, .f32⟩
  | 60 => ⟨S32x3x224x224, .f32⟩
  | 61 => ⟨S32x3x224x224, .f32⟩
  | 62 => ⟨S32x3x224x224, .f32⟩
  | 63 => ⟨S32x3x224x224, .f32⟩
  | 64 => ⟨S32x3x224x224, .f32⟩
  | 65 => ⟨S32x3x224x224, .f32⟩
  | 66 => ⟨S_, .f32⟩
  | 67 => ⟨S32x3x224x224, .f32⟩
  | 68 => ⟨S32x3x224x224, .f32⟩
  | 69 => ⟨S32x3x224x224, .f32⟩
  | 70 => ⟨S_, .f32⟩
  | 71 => ⟨S32x3x224x224, .f32⟩
  | 72 => ⟨S32x3x224x224, .f32⟩
  | 73 => ⟨S32x3x224x224, .f32⟩
  | 74 => ⟨S_, .f32⟩
  | 75 => ⟨S32x3x224x224, .f32⟩
  | 76 => ⟨S32x3x224x224, .f32⟩
  | 77 => ⟨S32x3x224x224, .f32⟩
  | 78 => ⟨S_, .f32⟩
  | 79 => ⟨S32x3x224x224, .f32⟩
  | 80 => ⟨S32x3x224x224, .f32⟩
  | 81 => ⟨S32x3x224x224, .f32⟩
  | 82 => ⟨S_, .f32⟩
  | 83 => ⟨S32x3x224x224, .f32⟩
  | 84 => ⟨S32x3x224x224, .f32⟩
  | 85 => ⟨S32x3x224x224, .f32⟩
  | 86 => ⟨S_, .f32⟩
  | 87 => ⟨S32x3x224x224, .f32⟩
  | 88 => ⟨S32x3x224x224, .f32⟩
  | 89 => ⟨S32x3x224x224, .f32⟩
  | 90 => ⟨S_, .f32⟩
  | 91 => ⟨S32x3x224x224, .f32⟩
  | 92 => ⟨S32x3x224x224, .f32⟩
  | 93 => ⟨S32x3x224x224, .f32⟩
  | 94 => ⟨S_, .f32⟩
  | 95 => ⟨S32x3x224x224, .f32⟩
  | 96 => ⟨S32x3x224x224, .f32⟩
  | 97 => ⟨S32x3x224x224, .f32⟩
  | 98 => ⟨S_, .f32⟩
  | 99 => ⟨S32x3x224x224, .f32⟩
  | 100 => ⟨S32x3x224x224, .f32⟩
  | 101 => ⟨S32x3x224x224, .f32⟩
  | 102 => ⟨S32x3x224x224, .f32⟩
  | 103 => ⟨S32x3x224x224, .f32⟩
  | 104 => ⟨S32x3x224x224, .f32⟩
  | 105 => ⟨S32x3x224x224, .f32⟩
  | 106 => ⟨S32x3x224x224, .f32⟩
  | 107 => ⟨S32x3x224x224, .f32⟩
  | 108 => ⟨S32x3x224x224, .f32⟩
  | 109 => ⟨S32x3x224x224, .f32⟩
  | 110 => ⟨S32x3x224x224, .f32⟩
  | 111 => ⟨S32x3x224x224, .f32⟩
  | 112 => ⟨S32x3x224x224, .f32⟩
  | 113 => ⟨S32x3x224x224, .f32⟩
  | 114 => ⟨S_, .f32⟩
  | 115 => ⟨S32x3x224x224, .f32⟩
  | 116 => ⟨S32x3x224x224, .f32⟩
  | 117 => ⟨S_, .f32⟩
  | 118 => ⟨S32x3x224x224, .f32⟩
  | 119 => ⟨S32x3x224x224, .f32⟩
  | 120 => ⟨S32x3x224x224, .f32⟩
  | 121 => ⟨S32x3x224x224, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S32x3x224x224, .f32⟩

abbrev hbmTy0_1 (i : Nat) : BufTy := match i % 128 with
  | 0 => ⟨S32x3x224x224, .i32⟩
  | 1 => ⟨S32x3x224x224, .i32⟩
  | 2 => ⟨S_, .i32⟩
  | 3 => ⟨S32x3x224x224, .i32⟩
  | 4 => ⟨S32x3x224x224, .i1⟩
  | 5 => ⟨S_, .i32⟩
  | 6 => ⟨S32x3x224x224, .i32⟩
  | 7 => ⟨S32x3x224x224, .i1⟩
  | 8 => ⟨S_, .i32⟩
  | 9 => ⟨S_, .i1⟩
  | 10 => ⟨S32x3x224x224, .i1⟩
  | 11 => ⟨S32x3x224x224, .i1⟩
  | 12 => ⟨S32x3x224x224, .i1⟩
  | 13 => ⟨S32x3x224x224, .i32⟩
  | 14 => ⟨S32x3x224x224, .i32⟩
  | 15 => ⟨S32x3x224x224, .i32⟩
  | 16 => ⟨S9, .i32⟩
  | 17 => ⟨S1x1x9x1x1, .i32⟩
  | 18 => ⟨S32x3x1x224x224, .i32⟩
  | 19 => ⟨S32x3x9x224x224, .i32⟩
  | 20 => ⟨S32x3x9x224x224, .i32⟩
  | 21 => ⟨S32x3x9x224x224, .i1⟩
  | 22 => ⟨S32x3x1x224x224, .f32⟩
  | 23 => ⟨S_, .f32⟩
  | 24 => ⟨S_, .f32⟩
  | 25 => ⟨S32x3x9x224x224, .f32⟩
  | 26 => ⟨S32x3x9x224x224, .f32⟩
  | 27 => ⟨S32x3x9x224x224, .f32⟩
  | 28 => ⟨S32x3x9x32x7x32x7, .f32⟩
  | 29 => ⟨S_, .f32⟩
  | 30 => ⟨S32x3x9x32x32, .f32⟩
  | 31 => ⟨S32x3x9x32x32, .f32⟩
  | 32 => ⟨S_, .f32⟩
  | 33 => ⟨S32x3x32x32, .f32⟩
  | 34 => ⟨S32x3x1x32x32, .f32⟩
  | 35 => ⟨S32x3x1x32x32, .f32⟩
  | 36 => ⟨S_, .f32⟩
  | 37 => ⟨S32x3x1x32x32, .f32⟩
  | 38 => ⟨S32x3x1x32x32, .f32⟩
  | 39 => ⟨S32x3x9x32x32, .f32⟩
  | 40 => ⟨S32x3x9x32x32, .f32⟩
  | 41 => ⟨S96x9x32x32, .f32⟩
  | _ => ⟨S32x3x224x224, .f32⟩

abbrev hbmTy (i : Nat) : BufTy := match i / 128 with
  | 0 => hbmTy0_0 i
  | 1 => hbmTy0_1 i
  | _ => ⟨S32x3x224x224, .f32⟩

abbrev bufTy : (tb : Table) → Fin (tcTables nBuf tb) → BufTy
  | .hbm, ⟨i, _⟩ => hbmTy i
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_4 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_7 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_8 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_14 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_16 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_17 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_18 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_20 : Ref sig .tc := ⟨.hbm, 122, rfl⟩
abbrev main_call1_v0 : Ref sig .tc := ⟨.hbm, 123, rfl⟩
abbrev main_call1_c : Ref sig .tc := ⟨.hbm, 124, rfl⟩
abbrev main_call1_v1 : Ref sig .tc := ⟨.hbm, 125, rfl⟩
abbrev main_call1_c_0 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_c_1 : Ref sig .tc := ⟨.hbm, 130, rfl⟩
abbrev main_call1_v5 : Ref sig .tc := ⟨.hbm, 131, rfl⟩
abbrev main_call1_v6 : Ref sig .tc := ⟨.hbm, 132, rfl⟩
abbrev main_call1_c_2 : Ref sig .tc := ⟨.hbm, 133, rfl⟩
abbrev main_call1_v7 : Ref sig .tc := ⟨.hbm, 134, rfl⟩
abbrev main_call1_v8 : Ref sig .tc := ⟨.hbm, 135, rfl⟩
abbrev main_call1_c_3 : Ref sig .tc := ⟨.hbm, 136, rfl⟩
abbrev main_call1_v9 : Ref sig .tc := ⟨.hbm, 137, rfl⟩
abbrev main_call1_v10 : Ref sig .tc := ⟨.hbm, 138, rfl⟩
abbrev main_call1_v11 : Ref sig .tc := ⟨.hbm, 139, rfl⟩
abbrev main_call1_v12 : Ref sig .tc := ⟨.hbm, 140, rfl⟩
abbrev main_call1_v13 : Ref sig .tc := ⟨.hbm, 141, rfl⟩
abbrev main_call1_v14 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_21 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_v92 : Ref sig .tc := ⟨.hbm, 155, rfl⟩
abbrev main_v93 : Ref sig .tc := ⟨.hbm, 156, rfl⟩
abbrev main_cst_22 : Ref sig .tc := ⟨.hbm, 157, rfl⟩
abbrev main_v94 : Ref sig .tc := ⟨.hbm, 158, rfl⟩
abbrev main_call3_v0 : Ref sig .tc := ⟨.hbm, 159, rfl⟩
abbrev main_call3_cst : Ref sig .tc := ⟨.hbm, 160, rfl⟩
abbrev main_call3_v1 : Ref sig .tc := ⟨.hbm, 161, rfl⟩
abbrev main_call3_v2 : Ref sig .tc := ⟨.hbm, 162, rfl⟩
abbrev main_v95 : Ref sig .tc := ⟨.hbm, 163, rfl⟩
abbrev main_cst_23 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩

abbrev nD : Nat := 1
abbrev τ : Topo := Topo.v7x

variable {F : FTy → Type} [FloatOps F]
-- ==== Proof.Basics.lean ====
/- The claims that say nothing about values: that each program runs and leaves its argument as it was, and what the
   named constant stands for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Hog

open Idealize.ShloMosaic Idealize.ShloMosaic.TcCoe Idealize.SL.Sem

/-- The kernel runs, leaves its argument unchanged and every semaphore at zero. -/
theorem frame_kernel : Cert.quiescent_Kernel := fun m ρ _ => Cert.Kernel.Gen.frame m ρ

/-- So does the kernel with the constant named. -/
theorem frame_kernelIdeal : Cert.quiescent_KernelIdeal := fun m ρ _ => Cert.KernelIdeal.Gen.frame m ρ

/-- So does the reference. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant is the reciprocal of the reference's epsilon, and the word it replaces is that real's. -/
theorem preserves : Cert.preserves_Kernel_KernelIdeal :=
  IdealRules.named_const.statement Cert.KernelIdeal.κ "inv_eps" .f32 0x5368D4A5#32
    ((2305843009213693952 / 2305843 : ℝ) : EReal) rfl

end Cert.Hog

end
-- ==== Proof.Count.lean ====
/- Checking a property of all naturals below a bound by computation, and what the three constant tables of the kernel
   hold. -/
module

public import proofs.«01_k».proof.KernelIdeal
public import Idealize.ShloMosaic.Lib.Pointwise

@[expose] public section

set_option maxRecDepth 16384

noncomputable section

namespace Cert.Hog

open Idealize.ShloMosaic Cert.KernelIdeal

/-- Whether `p` holds below `n`, counted down. -/
def allBelow (p : ℕ → Bool) : ℕ → Bool
  | 0 => true
  | n + 1 => p n && allBelow p n

/-- If the count says so, `p` holds below `n`. -/
theorem of_allBelow (p : ℕ → Bool) : ∀ n, allBelow p n = true → ∀ i, i < n → p i = true
  | 0, _, _, h => absurd h (Nat.not_lt_zero _)
  | n + 1, h, i, hi => by
    simp only [allBelow, Bool.and_eq_true] at h
    rcases Nat.lt_succ_iff_lt_or_eq.mp hi with h' | rfl
    · exact of_allBelow p n h.2 i h'
    · exact h.1

/-- The bf16 word of the smoothing matrix at row `i`, column `r`: two on the diagonal, one beside it, and two beside it
    where a reflected neighbour is counted as well. -/
def smoothWord (i r : ℕ) : ℕ :=
  bif Nat.beq r i then 0x4000
  else bif Nat.beq (r + 1) i then (bif Nat.beq i 223 then 0x4000 else 0x3F80)
  else bif Nat.beq r (i + 1) then (bif Nat.beq i 0 then 0x4000 else 0x3F80)
  else 0

/-- The bf16 word of the difference matrix: one before the diagonal and minus one after it, none in the first and last
    rows. -/
def diffWord (i r : ℕ) : ℕ :=
  bif Nat.beq i 0 then 0
  else bif Nat.beq i 223 then 0
  else bif Nat.beq (r + 1) i then 0x3F80
  else bif Nat.beq r (i + 1) then 0xBF80
  else 0

/-- The f32 word of the pooling matrix: one where pixel `j` lies in cell `c`. -/
def poolWord (j c : ℕ) : ℕ := bif Nat.beq (j / 7) c then 0x3F800000 else 0

/-- The pooling table holds its words. -/
theorem table_pool : allBelow (fun j => allBelow (fun c => Nat.beq (lit2t (32 * j + c)).toNat (poolWord j c)) 32) 224 = true := by
  decide +kernel

end Cert.Hog
end
-- ==== Proof.TableS0.lean ====
/- Rows 0 to 55 of the kernel's smooth table, checked by computation. -/
module

public import proofs.«01_k».proof.Proof.Count

@[expose] public section

set_option maxRecDepth 16384

noncomputable section

namespace Cert.Hog

open Idealize.ShloMosaic Cert.KernelIdeal

/-- The table holds its words in these rows. -/
theorem table_smooth0 : allBelow (fun i => allBelow (fun r =>
    Nat.beq (lit0t (224 * (0 + i) + r)).toNat (smoothWord (0 + i) r)) 224) 56 = true := by
  decide +kernel

end Cert.Hog
end
-- ==== Proof.TableS1.lean ====
/- Rows 56 to 111 of the kernel's smooth table, checked by computation. -/
module

public import proofs.«01_k».proof.Proof.Count

@[expose] public section

set_option maxRecDepth 16384

noncomputable section

namespace Cert.Hog

open Idealize.ShloMosaic Cert.KernelIdeal

/-- The table holds its words in these rows. -/
theorem table_smooth1 : allBelow (fun i => allBelow (fun r =>
    Nat.beq (lit0t (224 * (56 + i) + r)).toNat (smoothWord (56 + i) r)) 224) 56 = true := by
  decide +kernel

end Cert.Hog
end
-- ==== Proof.TableS2.lean ====
/- Rows 112 to 167 of the kernel's smooth table, checked by computation. -/
module

public import proofs.«01_k».proof.Proof.Count

@[expose] public section

set_option maxRecDepth 16384

noncomputable section

namespace Cert.Hog

open Idealize.ShloMosaic Cert.KernelIdeal

/-- The table holds its words in these rows. -/
theorem table_smooth2 : allBelow (fun i => allBelow (fun r =>
    Nat.beq (lit0t (224 * (112 + i) + r)).toNat (smoothWord (112 + i) r)) 224) 56 = true := by
  decide +kernel

end Cert.Hog
end
-- ==== Proof.TableS3.lean ====
/- Rows 168 to 223 of the kernel's smooth table, checked by computation. -/
module

public import proofs.«01_k».proof.Proof.Count

@[expose] public section

set_option maxRecDepth 16384

noncomputable section

namespace Cert.Hog

open Idealize.ShloMosaic Cert.KernelIdeal

/-- The table holds its words in these rows. -/
theorem table_smooth3 : allBelow (fun i => allBelow (fun r =>
    Nat.beq (lit0t (224 * (168 + i) + r)).toNat (smoothWord (168 + i) r)) 224) 56 = true := by
  decide +kernel

end Cert.Hog
end
-- ==== Proof.TableD0.lean ====
/- Rows 0 to 55 of the kernel's diff table, checked by computation. -/
module

public import proofs.«01_k».proof.Proof.Count

@[expose] public section

set_option maxRecDepth 16384

noncomputable section

namespace Cert.Hog

open Idealize.ShloMosaic Cert.KernelIdeal

/-- The table holds its words in these rows. -/
theorem table_diff0 : allBelow (fun i => allBelow (fun r =>
    Nat.beq (lit1t (224 * (0 + i) + r)).toNat (diffWord (0 + i) r)) 224) 56 = true := by
  decide +kernel

end Cert.Hog
end
-- ==== Proof.TableD1.lean ====
/- Rows 56 to 111 of the kernel's diff table, checked by computation. -/
module

public import proofs.«01_k».proof.Proof.Count

@[expose] public section

set_option maxRecDepth 16384

noncomputable section

namespace Cert.Hog

open Idealize.ShloMosaic Cert.KernelIdeal

/-- The table holds its words in these rows. -/
theorem table_diff1 : allBelow (fun i => allBelow (fun r =>
    Nat.beq (lit1t (224 * (56 + i) + r)).toNat (diffWord (56 + i) r)) 224) 56 = true := by
  decide +kernel

end Cert.Hog
end
-- ==== Proof.TableD2.lean ====
/- Rows 112 to 167 of the kernel's diff table, checked by computation. -/
module

public import proofs.«01_k».proof.Proof.Count

@[expose] public section

set_option maxRecDepth 16384

noncomputable section

namespace Cert.Hog

open Idealize.ShloMosaic Cert.KernelIdeal

/-- The table holds its words in these rows. -/
theorem table_diff2 : allBelow (fun i => allBelow (fun r =>
    Nat.beq (lit1t (224 * (112 + i) + r)).toNat (diffWord (112 + i) r)) 224) 56 = true := by
  decide +kernel

end Cert.Hog
end
-- ==== Proof.TableD3.lean ====
/- Rows 168 to 223 of the kernel's diff table, checked by computation. -/
module

public import proofs.«01_k».proof.Proof.Count

@[expose] public section

set_option maxRecDepth 16384

noncomputable section

namespace Cert.Hog

open Idealize.ShloMosaic Cert.KernelIdeal

/-- The table holds its words in these rows. -/
theorem table_diff3 : allBelow (fun i => allBelow (fun r =>
    Nat.beq (lit1t (224 * (168 + i) + r)).toNat (diffWord (168 + i) r)) 224) 56 = true := by
  decide +kernel

end Cert.Hog
end
-- ==== Proof.Tables.lean ====
/- The three constant tables of the kernel, entry by entry. -/
module

public import proofs.«01_k».proof.Proof.TableS0
public import proofs.«01_k».proof.Proof.TableS1
public import proofs.«01_k».proof.Proof.TableS2
public import proofs.«01_k».proof.Proof.TableS3
public import proofs.«01_k».proof.Proof.TableD0
public import proofs.«01_k».proof.Proof.TableD1
public import proofs.«01_k».proof.Proof.TableD2
public import proofs.«01_k».proof.Proof.TableD3

@[expose] public section

set_option maxRecDepth 16384

noncomputable section

namespace Cert.Hog

open Idealize.ShloMosaic Cert.KernelIdeal

/-- Row `i`, column `r` of the smooth table. -/
theorem smooth_at (i r : ℕ) (hi : i < 224) (hr : r < 224) : (lit0t (224 * i + r)).toNat = smoothWord i r := by
  have key : ∀ b, allBelow (fun i => allBelow (fun r =>
      Nat.beq (lit0t (224 * (b + i) + r)).toNat (smoothWord (b + i) r)) 224) 56 = true → b ≤ i → i < b + 56 →
      (lit0t (224 * i + r)).toNat = smoothWord i r := by
    intro b h h1 h2
    have := of_allBelow _ _ (of_allBelow _ _ h (i - b) (by omega)) r hr
    rw [show b + (i - b) = i by omega] at this
    exact Nat.eq_of_beq_eq_true this
  rcases (by omega : i < 56 ∨ (56 ≤ i ∧ i < 112) ∨ (112 ≤ i ∧ i < 168) ∨ 168 ≤ i) with h | h | h | h
  · exact key 0 table_smooth0 (by omega) (by omega)
  · exact key 56 table_smooth1 (by omega) (by omega)
  · exact key 112 table_smooth2 (by omega) (by omega)
  · exact key 168 table_smooth3 (by omega) (by omega)

/-- Row `i`, column `r` of the diff table. -/
theorem diff_at (i r : ℕ) (hi : i < 224) (hr : r < 224) : (lit1t (224 * i + r)).toNat = diffWord i r := by
  have key : ∀ b, allBelow (fun i => allBelow (fun r =>
      Nat.beq (lit1t (224 * (b + i) + r)).toNat (diffWord (b + i) r)) 224) 56 = true → b ≤ i → i < b + 56 →
      (lit1t (224 * i + r)).toNat = diffWord i r := by
    intro b h h1 h2
    have := of_allBelow _ _ (of_allBelow _ _ h (i - b) (by omega)) r hr
    rw [show b + (i - b) = i by omega] at this
    exact Nat.eq_of_beq_eq_true this
  rcases (by omega : i < 56 ∨ (56 ≤ i ∧ i < 112) ∨ (112 ≤ i ∧ i < 168) ∨ 168 ≤ i) with h | h | h | h
  · exact key 0 table_diff0 (by omega) (by omega)
  · exact key 56 table_diff1 (by omega) (by omega)
  · exact key 112 table_diff2 (by omega) (by omega)
  · exact key 168 table_diff3 (by omega) (by omega)

/-- Row `j`, column `c` of the pooling table. -/
theorem pool_at (j c : ℕ) (hj : j < 224) (hc : c < 32) : (lit2t (32 * j + c)).toNat = poolWord j c :=
  Nat.eq_of_beq_eq_true (of_allBelow _ _ (of_allBelow _ _ table_pool j hj) c hc)

end Cert.Hog
end
-- ==== Proof.Image.lean ====
/- The nine stacked sums of one image, index by index. -/
module

public import proofs.«01_k».proof.Proof.Gen.KernelIdeal.Value
public import Idealize.ShloMosaic.Lib.Pointwise

@[expose] public section

set_option maxRecDepth 16384

noncomputable section

namespace Cert.Hog

open Idealize.ShloMosaic Cert.KernelIdeal Cert.KernelIdeal.Gen

/-! ## The sums of one image -/

/-- The nine stacked sums of one image from its gradient's length and folded direction, and the pooling matrix. -/
def imgQ (N u v : FVec Ideal S224x224 .f32) (pm : Vec Ideal S224x32 .f32) : FVec Ideal S288x32 .f32 :=
  k0_pay18 N u v pm (k0_pay10 N pm) (k0_pay11 N u v pm) (k0_pay12 N u v pm) (k0_pay13 N u v pm) (k0_pay14 N u v pm)
    (k0_pay15 N u v pm) (k0_pay16 u v) (k0_pay17 (F := Ideal)) pm

/-- Row `c` of bin `k` in the stack of nine times thirty-two rows. -/
def row : Fin 9 → Fin 32 → Fin 288
  | 0, c => ⟨c.val, by omega⟩
  | 1, c => ⟨32 + c.val, by omega⟩
  | 2, c => ⟨64 + c.val, by omega⟩
  | 3, c => ⟨96 + c.val, by omega⟩
  | 4, c => ⟨128 + c.val, by omega⟩
  | 5, c => ⟨160 + c.val, by omega⟩
  | 6, c => ⟨192 + c.val, by omega⟩
  | 7, c => ⟨224 + c.val, by omega⟩
  | 8, c => ⟨256 + c.val, by omega⟩

/-- What pixel `(N, u, v)` adds to sum `k`: its length if its direction is at or past edge `k`. -/
def steer (k : Fin 9) (N u v : EReal) : EReal :=
  match k with
  | 0 => N
  | 1 => if u * Ideal.ofBits .f32 0x3EBA5A4E#32 ≤ v then N else 0
  | 2 => if u * Ideal.ofBits .f32 0x3F56CF3C#32 ≤ v then N else 0
  | 3 => if u * Ideal.ofBits .f32 0x3FDDB3D7#32 ≤ v then N else 0
  | 4 => if u * Ideal.ofBits .f32 0x40B57B24#32 ≤ v then N else 0
  | 5 => if v ≤ u * Ideal.ofBits .f32 0xC0B57B24#32 then N else 0
  | 6 => if v ≤ u * Ideal.ofBits .f32 0xBFDDB3D7#32 then N else 0
  | 7 => if v ≤ u * Ideal.ofBits .f32 0xBF56CF3C#32 then N else 0
  | 8 => if v ≤ u * Ideal.ofBits .f32 0xBEBA5A4E#32 then N else 0

/-- The sum over cell `(r, c)` by two products with the pooling matrix, columns first. -/
def pooled (t : Fin 224 → Fin 224 → EReal) (pm : Vec Ideal S224x32 .f32) (c r : Fin 32) : EReal :=
  ∑ i : Fin 224, (∑ j : Fin 224, t i j * pm (ix2 j c)) * pm (ix2 i r)

set_option maxHeartbeats 4000000 in
/-- Sum `k` of one image at cell `(r, c)` is the pooled contribution of its pixels. -/
theorem imgQ_apply (N u v : FVec Ideal S224x224 .f32) (pm : Vec Ideal S224x32 .f32) (k : Fin 9) (c r : Fin 32) :
    imgQ N u v pm (ix2 (row k c) r)
      = pooled (fun i j => steer k (N (ix2 i j)) (u (ix2 i j)) (v (ix2 i j))) pm c r := by
  have hc : ∀ (n : ℕ) (h : n < 32), n = c.val → (⟨n, h⟩ : Fin 32) = c := fun n h e => Fin.ext e
  have hlt := c.isLt
  generalize hn : row k c = n
  unfold imgQ pooled
  pointwise [k0_pay18, k0_pay10, k0_pay11, k0_pay12, k0_pay13, k0_pay14, k0_pay15, k0_pay16, k0_pay17]
  refine Finset.sum_congr rfl fun i _ => ?_
  congr 1
  rcases k with ⟨k, hk⟩
  interval_cases k <;> simp only [Fin.zero_eta, Fin.mk_one, Fin.reduceFinMk, row] at hn <;> subst hn <;> simp only [steer]
  all_goals
    repeat first | rw [dif_neg (by omega)] | rw [dif_pos (by omega)]
    try first
      | rfl
      | rw [hc _ _ (by omega)]

end Cert.Hog
end
-- ==== Proof.Block.lean ====
/- What one grid point writes, index by index: the thirty-two by thirty-two cells of nine bins of three images, from
   the sums that the two matrix products per bin leave. -/
module

public import proofs.«01_k».proof.Proof.Image

@[expose] public section

set_option maxRecDepth 16384

noncomputable section

namespace Cert.Hog

open Idealize.ShloMosaic Cert.KernelIdeal Cert.KernelIdeal.Gen

/-! ## The cells of one image -/

/-- The content of bin `k` in cell `(r, c)`: sum `k` without sum `k + 1`. -/
def cell (q : FVec Ideal S288x32 .f32) (c r : Fin 32) (k : Fin 9) : EReal :=
  match k with
  | 0 => q (ix2 (row 0 c) r) - q (ix2 (row 1 c) r)
  | 1 => q (ix2 (row 1 c) r) - q (ix2 (row 2 c) r)
  | 2 => q (ix2 (row 2 c) r) - q (ix2 (row 3 c) r)
  | 3 => q (ix2 (row 3 c) r) - q (ix2 (row 4 c) r)
  | 4 => q (ix2 (row 4 c) r) - q (ix2 (row 5 c) r)
  | 5 => q (ix2 (row 5 c) r) - q (ix2 (row 6 c) r)
  | 6 => q (ix2 (row 6 c) r) - q (ix2 (row 7 c) r)
  | 7 => q (ix2 (row 7 c) r) - q (ix2 (row 8 c) r)
  | 8 => q (ix2 (row 8 c) r)

/-- The factor by which a cell's nine bins are scaled, from their contents. -/
def scale (w : Fin 9 → EReal) : EReal :=
  min (Ideal.rsqrt (w 0 * w 0 + w 1 * w 1 + w 2 * w 2 + w 3 * w 3 + w 4 * w 4 + w 5 * w 5 + w 6 * w 6 + w 7 * w 7 + w 8 * w 8))
    (Named.named (F := Ideal) (φ := .f32) κ "inv_eps" 0x5368D4A5#32)

/-- The kernel's factor, computed once for an image, at a cell. -/
theorem inv_apply (q : FVec Ideal S288x32 .f32) (c r : Fin 32) :
    k0_pay59 q (k0_pay55 q) (k0_pay56 q) (ix2 c r) = scale (cell q c r) := by
  pointwise [k0_pay49, k0_pay50, k0_pay51, k0_pay52, k0_pay53, k0_pay54, k0_pay55, k0_pay56, k0_pay57, k0_pay58, k0_pay59]
  rfl

/-- The stored result of bin `k`, at its cell. -/
def scaled (q : FVec Ideal S288x32 .f32) (k : Fin 9) (c r : Fin 32) : EReal :=
  cell q c r k * scale (cell q c r)

/-- What is stored for bin 0. -/
theorem piece0 (q : FVec Ideal S288x32 .f32) (r c : Fin 32) :
    k0_pay60 q (k0_pay49 q) (k0_pay55 q) (k0_pay56 q) (ix4 0 0 r c) = scaled q 0 c r := by
  pointwise [k0_pay60, k0_pay49]
  rw [inv_apply]; rfl
/-- What is stored for bin 1. -/
theorem piece1 (q : FVec Ideal S288x32 .f32) (r c : Fin 32) :
    k0_pay61 q (k0_pay50 q) (k0_pay55 q) (k0_pay56 q) (ix4 0 0 r c) = scaled q 1 c r := by
  pointwise [k0_pay61, k0_pay50]
  rw [inv_apply]; rfl
/-- What is stored for bin 2. -/
theorem piece2 (q : FVec Ideal S288x32 .f32) (r c : Fin 32) :
    k0_pay62 q (k0_pay51 q) (k0_pay55 q) (k0_pay56 q) (ix4 0 0 r c) = scaled q 2 c r := by
  pointwise [k0_pay62, k0_pay51]
  rw [inv_apply]; rfl
/-- What is stored for bin 3. -/
theorem piece3 (q : FVec Ideal S288x32 .f32) (r c : Fin 32) :
    k0_pay63 q (k0_pay52 q) (k0_pay55 q) (k0_pay56 q) (ix4 0 0 r c) = scaled q 3 c r := by
  pointwise [k0_pay63, k0_pay52]
  rw [inv_apply]; rfl
/-- What is stored for bin 4. -/
theorem piece4 (q : FVec Ideal S288x32 .f32) (r c : Fin 32) :
    k0_pay65 (k0_pay64 q (k0_pay53 q) (k0_pay55 q) (k0_pay56 q)) (ix4 0 0 r c) = scaled q 4 c r := by
  pointwise [k0_pay65, k0_pay64, k0_pay53]
  rw [inv_apply]; rfl
/-- What is stored for bin 5. -/
theorem piece5 (q : FVec Ideal S288x32 .f32) (r c : Fin 32) :
    k0_pay66 (k0_pay54 q) (k0_pay59 q (k0_pay55 q) (k0_pay56 q)) (ix4 0 0 r c) = scaled q 5 c r := by
  pointwise [k0_pay66, k0_pay54]
  rw [inv_apply]; rfl
/-- What is stored for bin 6. -/
theorem piece6 (q : FVec Ideal S288x32 .f32) (r c : Fin 32) :
    k0_pay67 (k0_pay56 q) (k0_pay59 q (k0_pay55 q) (k0_pay56 q)) (ix4 0 0 r c) = scaled q 6 c r := by
  pointwise [k0_pay67]
  rw [inv_apply]
  pointwise [k0_pay56]
  rfl
/-- What is stored for bin 7. -/
theorem piece7 (q : FVec Ideal S288x32 .f32) (r c : Fin 32) :
    k0_pay68 (k0_pay57 q) (k0_pay59 q (k0_pay55 q) (k0_pay56 q)) (ix4 0 0 r c) = scaled q 7 c r := by
  pointwise [k0_pay68, k0_pay57]
  rw [inv_apply]; rfl
/-- What is stored for bin 8. -/
theorem piece8 (q : FVec Ideal S288x32 .f32) (r c : Fin 32) :
    k0_pay69 (k0_pay58 q) (k0_pay59 q (k0_pay55 q) (k0_pay56 q)) (ix4 0 0 r c) = scaled q 8 c r := by
  pointwise [k0_pay69, k0_pay58]
  rw [inv_apply]; rfl

/-! ## The block of one grid point -/

/-- The place in the block of element `(r, c)` of the piece stored for image `a`, bin `b`. -/
theorem emb_piece (a b : ℕ) (ha : a < 3) (hb : b < 9)
    (inb : ∀ x, (![a, b, 0, 0] : Fin 4 → ℕ) x + S1x1x32x32.size x ≤ S3x9x32x32.size x) (r c : Fin 32) :
    (Rect.unit (s := S3x9x32x32) ![a, b, 0, 0] S1x1x32x32.size inb).emb (ix4 0 0 r c) = ix4 ⟨a, ha⟩ ⟨b, hb⟩ r c := by
  funext x
  apply Fin.ext
  fin_cases x <;> simp [Rect.emb, Rect.unit, ix4]

/-- The block from the sums of its three images. -/
def blockG (Q : Fin 3 → FVec Ideal S288x32 .f32) (y : S3x9x32x32.Idx) : EReal := scaled (Q (y 0)) (y 1) (y 3) (y 2)

/-- A piece whose elements are the scaled cells of image `a`, bin `b`, agrees with the block at its place. -/
theorem piece_agrees (a b : ℕ) (ha : a < 3) (hb : b < 9)
    (inb : ∀ x, (![a, b, 0, 0] : Fin 4 → ℕ) x + S1x1x32x32.size x ≤ S3x9x32x32.size x)
    (Q : Fin 3 → FVec Ideal S288x32 .f32) (p : FVec Ideal S1x1x32x32 .f32)
    (h : ∀ r c, p (ix4 0 0 r c) = scaled (Q ⟨a, ha⟩) ⟨b, hb⟩ c r) (x : S1x1x32x32.Idx) :
    p x = blockG Q ((Rect.unit (s := S3x9x32x32) ![a, b, 0, 0] S1x1x32x32.size inb).emb x) := by
  have hx : ∃ r c : Fin 32, x = (ix4 0 0 r c : S1x1x32x32.Idx) := by
    refine ⟨x 2, x 3, ?_⟩
    have h0 : x 0 = (0 : Fin 1) := @Subsingleton.elim (Fin 1) _ _ _
    have h1 : x 1 = (0 : Fin 1) := @Subsingleton.elim (Fin 1) _ _ _
    refine (eq_ix4 x).trans ?_
    rw [h0, h1]
  obtain ⟨r, c, rfl⟩ := hx
  rw [h, emb_piece a b ha hb]
  rfl

variable (x0 : Vec Ideal S3x224x224 .f32) (x1 x2 : Vec Ideal S224x224 .bf16) (x3 : Vec Ideal S224x32 .f32)
  (x4 : Vec Ideal S32x224 .f32)

/-- The sums of image `a` of the block. -/
def blockQ (a : Fin 3) : FVec Ideal S288x32 .f32 :=
  match a with
  | 0 => k0_pay114 x0 x1 x2 x3 x4
  | 1 => k0_pay119 x0 x1 x2 x3 x4
  | 2 => k0_pay123 x0 x1 x2 x3 x4

/-- The block after the body: every element is its image's, bin's and cell's scaled content. -/
theorem out_apply (a : Fin 3) (k : Fin 9) (r c : Fin 32) :
    out0_5 x0 x1 x2 x3 x4 (ix4 a k r c) = scaled (blockQ x0 x1 x2 x3 x4 a) k c r := by
  unfold out0_5
  refine (View.canon_apply_of_pieces (blockG (blockQ x0 x1 x2 x3 x4)) _ ?_ _
    (cover0_5 _ _ _ _ _ _ _ _ _ _ _ _ _ _ _ _ _ _ _ _ _ _ _ _ _ _ _ _)).trans rfl
  refine List.forall_mem_cons.mpr ⟨fun x => piece_agrees 2 8 (by decide) (by decide) (by decide) (blockQ x0 x1 x2 x3 x4) _ (fun r c => piece8 (blockQ x0 x1 x2 x3 x4 2) r c) x, ?_⟩
  refine List.forall_mem_cons.mpr ⟨fun x => piece_agrees 2 7 (by decide) (by decide) (by decide) (blockQ x0 x1 x2 x3 x4) _ (fun r c => piece7 (blockQ x0 x1 x2 x3 x4 2) r c) x, ?_⟩
  refine List.forall_mem_cons.mpr ⟨fun x => piece_agrees 2 6 (by decide) (by decide) (by decide) (blockQ x0 x1 x2 x3 x4) _ (fun r c => piece6 (blockQ x0 x1 x2 x3 x4 2) r c) x, ?_⟩
  refine List.forall_mem_cons.mpr ⟨fun x => piece_agrees 2 5 (by decide) (by decide) (by decide) (blockQ x0 x1 x2 x3 x4) _ (fun r c => piece5 (blockQ x0 x1 x2 x3 x4 2) r c) x, ?_⟩
  refine List.forall_mem_cons.mpr ⟨fun x => piece_agrees 2 4 (by decide) (by decide) (by decide) (blockQ x0 x1 x2 x3 x4) _ (fun r c => piece4 (blockQ x0 x1 x2 x3 x4 2) r c) x, ?_⟩
  refine List.forall_mem_cons.mpr ⟨fun x => piece_agrees 2 3 (by decide) (by decide) (by decide) (blockQ x0 x1 x2 x3 x4) _ (fun r c => piece3 (blockQ x0 x1 x2 x3 x4 2) r c) x, ?_⟩
  refine List.forall_mem_cons.mpr ⟨fun x => piece_agrees 2 2 (by decide) (by decide) (by decide) (blockQ x0 x1 x2 x3 x4) _ (fun r c => piece2 (blockQ x0 x1 x2 x3 x4 2) r c) x, ?_⟩
  refine List.forall_mem_cons.mpr ⟨fun x => piece_agrees 2 1 (by decide) (by decide) (by decide) (blockQ x0 x1 x2 x3 x4) _ (fun r c => piece1 (blockQ x0 x1 x2 x3 x4 2) r c) x, ?_⟩
  refine List.forall_mem_cons.mpr ⟨fun x => piece_agrees 2 0 (by decide) (by decide) (by decide) (blockQ x0 x1 x2 x3 x4) _ (fun r c => piece0 (blockQ x0 x1 x2 x3 x4 2) r c) x, ?_⟩
  refine List.forall_mem_cons.mpr ⟨fun x => piece_agrees 1 8 (by decide) (by decide) (by decide) (blockQ x0 x1 x2 x3 x4) _ (fun r c => piece8 (blockQ x0 x1 x2 x3 x4 1) r c) x, ?_⟩
  refine List.forall_mem_cons.mpr ⟨fun x => piece_agrees 1 7 (by decide) (by decide) (by decide) (blockQ x0 x1 x2 x3 x4) _ (fun r c => piece7 (blockQ x0 x1 x2 x3 x4 1) r c) x, ?_⟩
  refine List.forall_mem_cons.mpr ⟨fun x => piece_agrees 1 6 (by decide) (by decide) (by decide) (blockQ x0 x1 x2 x3 x4) _ (fun r c => piece6 (blockQ x0 x1 x2 x3 x4 1) r c) x, ?_⟩
  refine List.forall_mem_cons.mpr ⟨fun x => piece_agrees 1 5 (by decide) (by decide) (by decide) (blockQ x0 x1 x2 x3 x4) _ (fun r c => piece5 (blockQ x0 x1 x2 x3 x4 1) r c) x, ?_⟩
  refine List.forall_mem_cons.mpr ⟨fun x => piece_agrees 1 4 (by decide) (by decide) (by decide) (blockQ x0 x1 x2 x3 x4) _ (fun r c => piece4 (blockQ x0 x1 x2 x3 x4 1) r c) x, ?_⟩
  refine List.forall_mem_cons.mpr ⟨fun x => piece_agrees 1 3 (by decide) (by decide) (by decide) (blockQ x0 x1 x2 x3 x4) _ (fun r c => piece3 (blockQ x0 x1 x2 x3 x4 1) r c) x, ?_⟩
  refine List.forall_mem_cons.mpr ⟨fun x => piece_agrees 1 2 (by decide) (by decide) (by decide) (blockQ x0 x1 x2 x3 x4) _ (fun r c => piece2 (blockQ x0 x1 x2 x3 x4 1) r c) x, ?_⟩
  refine List.forall_mem_cons.mpr ⟨fun x => piece_agrees 1 1 (by decide) (by decide) (by decide) (blockQ x0 x1 x2 x3 x4) _ (fun r c => piece1 (blockQ x0 x1 x2 x3 x4 1) r c) x, ?_⟩
  refine List.forall_mem_cons.mpr ⟨fun x => piece_agrees 1 0 (by decide) (by decide) (by decide) (blockQ x0 x1 x2 x3 x4) _ (fun r c => piece0 (blockQ x0 x1 x2 x3 x4 1) r c) x, ?_⟩
  refine List.forall_mem_cons.mpr ⟨fun x => piece_agrees 0 8 (by decide) (by decide) (by decide) (blockQ x0 x1 x2 x3 x4) _ (fun r c => piece8 (blockQ x0 x1 x2 x3 x4 0) r c) x, ?_⟩
  refine List.forall_mem_cons.mpr ⟨fun x => piece_agrees 0 7 (by decide) (by decide) (by decide) (blockQ x0 x1 x2 x3 x4) _ (fun r c => piece7 (blockQ x0 x1 x2 x3 x4 0) r c) x, ?_⟩
  refine List.forall_mem_cons.mpr ⟨fun x => piece_agrees 0 6 (by decide) (by decide) (by decide) (blockQ x0 x1 x2 x3 x4) _ (fun r c => piece6 (blockQ x0 x1 x2 x3 x4 0) r c) x, ?_⟩
  refine List.forall_mem_cons.mpr ⟨fun x => piece_agrees 0 5 (by decide) (by decide) (by decide) (blockQ x0 x1 x2 x3 x4) _ (fun r c => piece5 (blockQ x0 x1 x2 x3 x4 0) r c) x, ?_⟩
  refine List.forall_mem_cons.mpr ⟨fun x => piece_agrees 0 4 (by decide) (by decide) (by decide) (blockQ x0 x1 x2 x3 x4) _ (fun r c => piece4 (blockQ x0 x1 x2 x3 x4 0) r c) x, ?_⟩
  refine List.forall_mem_cons.mpr ⟨fun x => piece_agrees 0 3 (by decide) (by decide) (by decide) (blockQ x0 x1 x2 x3 x4) _ (fun r c => piece3 (blockQ x0 x1 x2 x3 x4 0) r c) x, ?_⟩
  refine List.forall_mem_cons.mpr ⟨fun x => piece_agrees 0 2 (by decide) (by decide) (by decide) (blockQ x0 x1 x2 x3 x4) _ (fun r c => piece2 (blockQ x0 x1 x2 x3 x4 0) r c) x, ?_⟩
  refine List.forall_mem_cons.mpr ⟨fun x => piece_agrees 0 1 (by decide) (by decide) (by decide) (blockQ x0 x1 x2 x3 x4) _ (fun r c => piece1 (blockQ x0 x1 x2 x3 x4 0) r c) x, ?_⟩
  refine List.forall_mem_cons.mpr ⟨fun x => piece_agrees 0 0 (by decide) (by decide) (by decide) (blockQ x0 x1 x2 x3 x4) _ (fun r c => piece0 (blockQ x0 x1 x2 x3 x4 0) r c) x, ?_⟩
  exact fun _ h => absurd h List.not_mem_nil

end Cert.Hog
end
-- ==== Proof.Final.lean ====
/- The kernel's result array as one function of its argument: each block's images are the argument's, the tables are
   constants. -/
module

public import proofs.«01_k».proof.Proof.Block
public import proofs.«01_k».proof.Proof.Image
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Hog

open Cert.KernelIdeal Cert.KernelIdeal.Gen Cert.KernelIdeal.Value Idealize.ShloMosaic Idealize.ShloMosaic.TcCoe Idealize.SL.Sem

/-- The smoothing table of the program. -/
def tabA : FVec Ideal S224x224 .bf16 := fun i => FloatOps.ofBits .bf16 (lit0 (S224x224.rowMajor i))

/-- The difference table of the program. -/
def tabB : FVec Ideal S224x224 .bf16 := fun i => FloatOps.ofBits .bf16 (lit1 (S224x224.rowMajor i))

/-- The pooling table of the program. -/
def tabP : FVec Ideal S224x32 .f32 := fun i => FloatOps.ofBits .f32 (lit2 (S224x32.rowMajor i))

/-- Image `n` of the argument, as a block of one image. -/
def image (X : FVec Ideal S32x3x224x224 .f32) (n : Fin 96) : FVec Ideal S1x224x224 .f32 := fun i =>
  X (ix4 ⟨n.val / 3, by omega⟩ ⟨n.val % 3, by omega⟩ (i 1) (i 2))

/-- The sums of image `n`. -/
def sums (X : FVec Ideal S32x3x224x224 .f32) (n : Fin 96) : FVec Ideal S288x32 .f32 :=
  imgQ (k0_pay6 (image X n) tabA tabB) (k0_pay8 (image X n) tabA tabB) (k0_pay9 (image X n) tabA tabB) tabP

/-- The result array. -/
def final (X : FVec Ideal S32x3x224x224 .f32) : FVec Ideal S96x9x32x32 .f32 := fun i =>
  scaled (sums X (i 0)) (i 1) (i 3) (i 2)

variable (m : (ℓ : Loc nD τ sig) → Buf (Elt Ideal) ℓ) (ρ : Dev nD → PrngReg)

/-- The smoothing table as the launch finds it. -/
theorem entry_A (c : Dev nD) : V m c main_cst = tabA := by
  unfold_abbrev_sides
  after_results
  rfl

/-- The difference table as the launch finds it. -/
theorem entry_B (c : Dev nD) : V m c main_cst_0 = tabB := by
  unfold_abbrev_sides
  after_results
  rfl

/-- The pooling matrix as the launch finds it. -/
theorem entry_P (c : Dev nD) : V m c main_cst_1 = tabP := by
  unfold_abbrev_sides
  after_results
  rfl

/-- The images as the launch finds them: the argument with its two leading axes merged. -/
theorem entry_X (c : Dev nD) : V m c main_v0 = shapeCast S96x224x224 (m ((c : Thread nD τ).loc main_arg0)) shapeCasts_S32x3x224x224_S96x224x224 := by
  unfold_abbrev_sides
  after_results
  rfl

/-- Point `t` takes the `t`-th group of three images. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- Every point takes the whole smoothing table. -/
theorem idx1 : ∀ t : Fin cfg0.N, win0_1.index t (0 : Fin 2) = 0 ∧ win0_1.index t (1 : Fin 2) = 0 :=
  (by decide +kernel : ∀ t : Fin grid0.N, _)
/-- Every point takes the whole difference table. -/
theorem idx2 : ∀ t : Fin cfg0.N, win0_2.index t (0 : Fin 2) = 0 ∧ win0_2.index t (1 : Fin 2) = 0 :=
  (by decide +kernel : ∀ t : Fin grid0.N, _)
/-- Every point takes the whole pooling matrix. -/
theorem idx3 : ∀ t : Fin cfg0.N, win0_3.index t (0 : Fin 2) = 0 ∧ win0_3.index t (1 : Fin 2) = 0 :=
  (by decide +kernel : ∀ t : Fin grid0.N, _)
/-- Point `t` writes the `t`-th group of three results. -/
theorem idx5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- The smoothing table's block is the table. -/
theorem emb1 (t : Fin cfg0.N) (j : S224x224.Idx) : ((cfg0.win 1).blk t).view.emb j = j := by
  obtain ⟨e0, e1⟩ := idx1 t
  funext a; apply Fin.ext
  match a with
  | ⟨0, _⟩ => show win0_1.index t (0 : Fin 2) * 224 + 1 * (j 0).val = (j 0).val; omega
  | ⟨1, _⟩ => show win0_1.index t (1 : Fin 2) * 224 + 1 * (j 1).val = (j 1).val; omega

/-- The difference table's block is the table. -/
theorem emb2 (t : Fin cfg0.N) (j : S224x224.Idx) : ((cfg0.win 2).blk t).view.emb j = j := by
  obtain ⟨e0, e1⟩ := idx2 t
  funext a; apply Fin.ext
  match a with
  | ⟨0, _⟩ => show win0_2.index t (0 : Fin 2) * 224 + 1 * (j 0).val = (j 0).val; omega
  | ⟨1, _⟩ => show win0_2.index t (1 : Fin 2) * 224 + 1 * (j 1).val = (j 1).val; omega

/-- The pooling matrix's block is the matrix. -/
theorem emb3 (t : Fin cfg0.N) (j : S224x32.Idx) : ((cfg0.win 3).blk t).view.emb j = j := by
  obtain ⟨e0, e1⟩ := idx3 t
  funext a; apply Fin.ext
  match a with
  | ⟨0, _⟩ => show win0_3.index t (0 : Fin 2) * 224 + 1 * (j 0).val = (j 0).val; omega
  | ⟨1, _⟩ => show win0_3.index t (1 : Fin 2) * 32 + 1 * (j 1).val = (j 1).val; omega

/-- What a point reads of the smoothing table. -/
theorem iblk1_eq (c : Dev nD) (t : Fin cfg0.N) : iblk m c 1 t = tabA := by
  funext j; show V m c main_cst (((cfg0.win 1).blk t).view.emb j) = _; rw [emb1, entry_A]

/-- What a point reads of the difference table. -/
theorem iblk2_eq (c : Dev nD) (t : Fin cfg0.N) : iblk m c 2 t = tabB := by
  funext j; show V m c main_cst_0 (((cfg0.win 2).blk t).view.emb j) = _; rw [emb2, entry_B]

/-- What a point reads of the pooling matrix. -/
theorem iblk3_eq (c : Dev nD) (t : Fin cfg0.N) : iblk m c 3 t = tabP := by
  funext j; show V m c main_cst_1 (((cfg0.win 3).blk t).view.emb j) = _; rw [emb3, entry_P]

/-- The argument laid out as 96 images: image `n` is channel `n % 3` of entry `n / 3`. -/
theorem laid_out (X : FVec Ideal S32x3x224x224 .f32) (n : Fin 96) (i j : Fin 224) :
    shapeCast S96x224x224 X shapeCasts_S32x3x224x224_S96x224x224 (ix3 n i j) = image X n (ix3 0 i j) := by
  unfold image
  refine shapeCast_apply X _ _ _ ?_
  rw [Shape.rowMajor_val_four, Shape.rowMajor_val_three]
  show ((n.val / 3 * 3 + n.val % 3) * 224 + i.val) * 224 + j.val = (n.val * 224 + i.val) * 224 + j.val
  omega

/-- Image `a` of the block that point `t` is given is image `3 t + a` of the argument. -/
theorem iblk0_apply (c : Dev nD) (t : Fin cfg0.N) (a : Fin 3) (i j : Fin 224) (n : Fin 96) (hn : n.val = 3 * t.val + a.val) :
    (iblk m c 0 t : FVec Ideal S3x224x224 .f32) (ix3 a i j) = image (m ((c : Thread nD τ).loc main_arg0)) n (ix3 0 i j) := by
  obtain ⟨e0, e1, e2⟩ := idx0 t
  have he : ((cfg0.win 0).blk t).view.emb (ix3 a i j : S3x224x224.Idx) = (ix3 n i j : S96x224x224.Idx) := by
    funext b; apply Fin.ext
    match b with
    | ⟨0, _⟩ => show win0_0.index t (0 : Fin 3) * 3 + 1 * a.val = n.val; omega
    | ⟨1, _⟩ => show win0_0.index t (1 : Fin 3) * 224 + 1 * i.val = i.val; omega
    | ⟨2, _⟩ => show win0_0.index t (2 : Fin 3) * 224 + 1 * j.val = j.val; omega
  show V m c main_v0 (((cfg0.win 0).blk t).view.emb (ix3 a i j : S3x224x224.Idx)) = _
  rw [he, entry_X]
  exact laid_out _ n i j

/-- Loading one image of a block gives that image. -/
theorem ld_image (B : FVec Ideal S3x224x224 .f32) (a : ℕ) (ha : a < 3) (inb) (I : FVec Ideal S1x224x224 .f32)
    (h : ∀ i j : Fin 224, B (ix3 ⟨a, ha⟩ i j) = I (ix3 0 i j)) :
    View.ld (Val := Elt Ideal) (e' := .f32) B (Rect.unit (s := S3x224x224) ![a, 0, 0] S1x224x224.size inb) = I := by
  funext x
  have hx : ∃ i j : Fin 224, x = (ix3 0 i j : S1x224x224.Idx) := by
    refine ⟨x 1, x 2, ?_⟩
    have h0 : x 0 = (0 : Fin 1) := @Subsingleton.elim (Fin 1) _ _ _
    refine (eq_ix3 x).trans ?_
    rw [h0]
  obtain ⟨i, j, rfl⟩ := hx
  rw [← h]
  refine congrArg B ?_
  funext b; apply Fin.ext
  match b with
  | ⟨0, _⟩ => show a + 1 * 0 = a; omega
  | ⟨1, _⟩ => show 0 + 1 * i.val = i.val; omega
  | ⟨2, _⟩ => show 0 + 1 * j.val = j.val; omega

/-- Loading the whole of a square table gives the table. -/
theorem ld_square (x : Vec Ideal S224x224 .bf16) : View.ld x r0_1 = x := View.ld_unit_lit _ _ (by decide)

/-- Loading the whole of the pooling table gives the table. -/
theorem ld_pool (x : Vec Ideal S224x32 .f32) : View.ld x r0_2 = x := View.ld_unit_lit _ _ (by decide)

/-- The sums of a block's first image. -/
theorem blockQ_0 (x0 : Vec Ideal S3x224x224 .f32) (x1 x2 : Vec Ideal S224x224 .bf16) (x3 : Vec Ideal S224x32 .f32)
    (x4 : Vec Ideal S32x224 .f32) : blockQ x0 x1 x2 x3 x4 0
      = imgQ (k0_pay6 (View.ld x0 r0_0) (View.ld x1 r0_1) (View.ld x2 r0_1)) (k0_pay8 (View.ld x0 r0_0) (View.ld x1 r0_1) (View.ld x2 r0_1))
        (k0_pay9 (View.ld x0 r0_0) (View.ld x1 r0_1) (View.ld x2 r0_1)) (View.ld x3 r0_2) := rfl

/-- The sums of a block's second image. -/
theorem blockQ_1 (x0 : Vec Ideal S3x224x224 .f32) (x1 x2 : Vec Ideal S224x224 .bf16) (x3 : Vec Ideal S224x32 .f32)
    (x4 : Vec Ideal S32x224 .f32) : blockQ x0 x1 x2 x3 x4 1
      = imgQ (k0_pay6 (View.ld x0 r0_3) (View.ld x1 r0_1) (View.ld x2 r0_1)) (k0_pay8 (View.ld x0 r0_3) (View.ld x1 r0_1) (View.ld x2 r0_1))
        (k0_pay9 (View.ld x0 r0_3) (View.ld x1 r0_1) (View.ld x2 r0_1)) (View.ld x3 r0_2) := rfl

/-- The sums of a block's third image. -/
theorem blockQ_2 (x0 : Vec Ideal S3x224x224 .f32) (x1 x2 : Vec Ideal S224x224 .bf16) (x3 : Vec Ideal S224x32 .f32)
    (x4 : Vec Ideal S32x224 .f32) : blockQ x0 x1 x2 x3 x4 2
      = imgQ (k0_pay6 (View.ld x0 r0_4) (View.ld x1 r0_1) (View.ld x2 r0_1)) (k0_pay8 (View.ld x0 r0_4) (View.ld x1 r0_1) (View.ld x2 r0_1))
        (k0_pay9 (View.ld x0 r0_4) (View.ld x1 r0_1) (View.ld x2 r0_1)) (View.ld x3 r0_2) := rfl

/-- The body's sums of image `a` are the sums of that image, when the block's image `a` is it. -/
theorem blockQ_of (x0 : Vec Ideal S3x224x224 .f32) (x4 : Vec Ideal S32x224 .f32) (a : Fin 3) (X : FVec Ideal S32x3x224x224 .f32)
    (n : Fin 96) (h : ∀ i j : Fin 224, x0 (ix3 a i j) = image X n (ix3 0 i j)) :
    blockQ x0 tabA tabB tabP x4 a = sums X n := by
  match a, h with
  | 0, h => rw [blockQ_0, ld_square, ld_square, ld_pool, ld_image x0 0 (by decide) _ _ h]; rfl
  | 1, h => rw [blockQ_1, ld_square, ld_square, ld_pool, ld_image x0 1 (by decide) _ _ h]; rfl
  | 2, h => rw [blockQ_2, ld_square, ld_square, ld_pool, ld_image x0 2 (by decide) _ _ h]; rfl

/-- The body's sums of image `a` at point `t` are the sums of the argument's image `3 t + a`. -/
theorem blockQ_eq (c : Dev nD) (t : Fin cfg0.N) (a : Fin 3) (n : Fin 96) (hn : n.val = 3 * t.val + a.val) :
    blockQ (iblk m c 0 t) (iblk m c 1 t) (iblk m c 2 t) (iblk m c 3 t) (iblk m c 4 t) a
      = sums (m ((c : Thread nD τ).loc main_arg0)) n := by
  rw [iblk1_eq, iblk2_eq, iblk3_eq]
  exact blockQ_of _ _ a _ n fun i j => iblk0_apply m c t a i j n hn

/-- The result array after the run. -/
theorem final_eq (c : Dev nD) : (dats m 0 c).arrAt 5 cfg0.N = final (m ((c : Thread nD τ).loc main_arg0)) := by
  refine (dats m 0 c).arrAt_eq_of_covers 5 _ (by decide +kernel) fun t hf y => ?_
  rw [after0_5]
  blk_simp
  obtain ⟨a, k, r, q, rfl⟩ : ∃ (a : Fin 3) (k : Fin 9) (r q : Fin 32), y = (ix4 a k r q : S3x9x32x32.Idx) :=
    ⟨y 0, y 1, y 2, y 3, eq_ix4 y⟩
  have ht : t.val < 32 := lt_of_lt_of_eq t.isLt N_0
  obtain ⟨e0, e1, e2, e3⟩ := idx5 t
  have he : (win0_5.blk t).view.emb (ix4 a k r q : S3x9x32x32.Idx) = (ix4 ⟨3 * t.val + a.val, by omega⟩ k r q : S96x9x32x32.Idx) := by
    funext b; apply Fin.ext
    match b with
    | ⟨0, _⟩ => show win0_5.index t (0 : Fin 4) * 3 + 1 * a.val = 3 * t.val + a.val; omega
    | ⟨1, _⟩ => show win0_5.index t (1 : Fin 4) * 9 + 1 * k.val = k.val; omega
    | ⟨2, _⟩ => show win0_5.index t (2 : Fin 4) * 32 + 1 * r.val = r.val; omega
    | ⟨3, _⟩ => show win0_5.index t (3 : Fin 4) * 32 + 1 * q.val = q.val; omega
  refine (out_apply _ _ _ _ _ a k r q).trans ?_
  refine Eq.trans ?_ (congrArg (final (m ((c : Thread nD τ).loc main_arg0))) he).symm
  rw [blockQ_eq m c t a ⟨3 * t.val + a.val, by omega⟩ rfl]
  rfl

/-- The generated run with the result array at its function of the argument. -/
theorem run_final : θ_run defs (onTc (τ := τ) (main (F := Ideal))) ⟨m, fun _ => 0, ρ⟩ fun r => ∀ c : Dev nD,
      r.2.mem ((c : Thread nD τ).loc main_v2) = final (m ((c : Thread nD τ).loc main_arg0))
      ∧ r.2.mem ((c : Thread nD τ).loc main_arg0) = m ((c : Thread nD τ).loc main_arg0) :=
  (θ_run defs _ _).mono (fun r h c => ⟨(h c).1.trans (final_eq m c), (h c).2⟩) (run_blocks m ρ)

end Cert.Hog
end
-- ==== Proof.RefGrad.lean ====
/- The reference's two gradients at one pixel, in the image's own elements: the border reflects, and each gradient is
   a sum of nine weighted neighbours. -/
module

public import proofs.«01_k».proof.Proof.Gen.ReferenceIdeal.Run
public import Idealize.ShloMosaic.Lib.Pointwise

@[expose] public section

set_option maxRecDepth 16384

noncomputable section

namespace Cert.Hog

open Cert.ReferenceIdeal Cert.ReferenceIdeal.Gen Cert.ReferenceIdeal.Value Idealize.ShloMosaic Idealize.ShloMosaic.TcCoe Idealize.SL.Sem Idealize.ShloMosaic.StableHlo

/-- The image row or column that padded row or column `p` shows: the border reflects. -/
def rf (p : Fin 226) : Fin 224 :=
  if _ : p.val < 1 then 1 else if _ : p.val < 225 then ⟨p.val - 1, by omega⟩ else 222

/-- Padded row or column `i + d`. -/
def sh (d : Fin 3) (i : Fin 224) : Fin 226 := ⟨d.val + i.val, by omega⟩

/-- The horizontal gradient at a pixel: nine weighted neighbours. -/
def refGx (x : Fin 224 → Fin 224 → EReal) (i j : Fin 224) : EReal :=
  1 * x (rf (sh 0 i)) (rf (sh 0 j)) + 0 * x (rf (sh 0 i)) (rf (sh 1 j)) + (-1) * x (rf (sh 0 i)) (rf (sh 2 j))
    + 2 * x (rf (sh 1 i)) (rf (sh 0 j)) + 0 * x (rf (sh 1 i)) (rf (sh 1 j)) + (-2) * x (rf (sh 1 i)) (rf (sh 2 j))
    + 1 * x (rf (sh 2 i)) (rf (sh 0 j)) + 0 * x (rf (sh 2 i)) (rf (sh 1 j)) + (-1) * x (rf (sh 2 i)) (rf (sh 2 j))

/-- The vertical gradient at a pixel: nine weighted neighbours. -/
def refGy (x : Fin 224 → Fin 224 → EReal) (i j : Fin 224) : EReal :=
  1 * x (rf (sh 0 i)) (rf (sh 0 j)) + 2 * x (rf (sh 0 i)) (rf (sh 1 j)) + 1 * x (rf (sh 0 i)) (rf (sh 2 j))
    + 0 * x (rf (sh 1 i)) (rf (sh 0 j)) + 0 * x (rf (sh 1 i)) (rf (sh 1 j)) + 0 * x (rf (sh 1 i)) (rf (sh 2 j))
    + (-1) * x (rf (sh 2 i)) (rf (sh 0 j)) + (-2) * x (rf (sh 2 i)) (rf (sh 1 j)) + (-1) * x (rf (sh 2 i)) (rf (sh 2 j))

/-- The word of 1 is the real 1. -/
theorem ofBits_one : Ideal.ofBits .f32 0x3F800000#32 = 1 := by
  simp [Ideal.ofBits, Ideal.ieee]
  try (rw [← EReal.coe_mul]; norm_num)
/-- The word of 2 is the real 2. -/
theorem ofBits_two : Ideal.ofBits .f32 0x40000000#32 = 2 := by
  simp [Ideal.ofBits, Ideal.ieee]
  rw [← EReal.coe_mul, show (8388608 : ℝ) * (2 ^ 22)⁻¹ = 2 by norm_num]
  rfl
/-- The word of −1 is the real −1. -/
theorem ofBits_negOne : Ideal.ofBits .f32 0xBF800000#32 = -1 := by
  simp [Ideal.ofBits, Ideal.ieee]
  try (rw [← EReal.coe_mul]; norm_num)
/-- The word of −2 is the real −2. -/
theorem ofBits_negTwo : Ideal.ofBits .f32 0xC0000000#32 = -2 := by
  simp [Ideal.ofBits, Ideal.ieee]
  rw [← EReal.coe_mul, show (8388608 : ℝ) * (2 ^ 22)⁻¹ = 2 by norm_num]
  rfl

variable (V0 : Valuation τ sig (Elt Ideal))

/-- The array the reference is given. -/
abbrev refIn : FVec Ideal S32x3x224x224 .f32 := V0 (Proc.devRef .tc main_arg0)

/-- One image of an array of images. -/
def img (X : FVec Ideal S32x3x224x224 .f32) (b : Fin 32) (c : Fin 3) : Fin 224 → Fin 224 → EReal := fun i j => X (ix4 b c i j)

/-- The image with its first row reflected above it. -/
theorem pad_top (b : Fin 32) (c : Fin 3) (p : Fin 225) (q : Fin 224) (z : Fin 226) (hz : z.val = p.val) :
    (res_main_call0_v3 V0 : FVec Ideal S32x3x225x224 .f32) (ix4 b c p q) = refIn V0 (ix4 b c (rf z) q) := by
  pointwise [res_main_call0_v3]
  unfold rf
  by_cases h : p.val < 1
  · rw [dif_pos h, dif_pos (by omega)]; rfl
  · rw [dif_neg h, dif_neg (by omega), dif_pos (by omega)]
    simp only [hz]

/-- The image with both of its outer rows reflected. -/
theorem pad_bottom (b : Fin 32) (c : Fin 3) (p : Fin 226) (q : Fin 224) :
    (res_main_call0_v7 V0 : FVec Ideal S32x3x226x224 .f32) (ix4 b c p q) = refIn V0 (ix4 b c (rf p) q) := by
  pointwise [res_main_call0_v7]
  by_cases h : p.val < 225
  · rw [dif_pos h]; exact pad_top V0 b c _ q p rfl
  · rw [dif_neg h]
    refine (pad_top V0 b c 223 q 223 rfl).trans ?_
    unfold rf
    rw [dif_neg (by decide), dif_pos (by decide), dif_neg (by omega), dif_neg (by omega)]
    rfl

/-- The image with its rows and its first column reflected. -/
theorem pad_left (b : Fin 32) (c : Fin 3) (p : Fin 226) (q : Fin 225) (z : Fin 226) (hz : z.val = q.val) :
    (res_main_call0_v11 V0 : FVec Ideal S32x3x226x225 .f32) (ix4 b c p q) = refIn V0 (ix4 b c (rf p) (rf z)) := by
  pointwise [res_main_call0_v11]
  by_cases h : q.val < 1
  · rw [dif_pos h]
    refine (pad_bottom V0 b c p 1).trans ?_
    have hz0 : rf z = 1 := by unfold rf; rw [dif_pos (by omega)]
    rw [hz0]
  · rw [dif_neg h]
    refine (pad_bottom V0 b c p _).trans ?_
    have hz0 : rf z = ⟨q.val - 1, by omega⟩ := by
      unfold rf; rw [dif_neg (by omega), dif_pos (by omega)]; simp only [hz]
    rw [hz0]

/-- The padded array shows the image reflected at its border. -/
theorem pad_apply (b : Fin 32) (c : Fin 3) (p q : Fin 226) :
    (res_main_v1 V0 : FVec Ideal S32x3x226x226 .f32) (ix4 b c p q) = img (refIn V0) b c (rf p) (rf q) := by
  pointwise [res_main_v1]
  by_cases h : q.val < 225
  · rw [dif_pos h]; exact pad_left V0 b c p _ q rfl
  · rw [dif_neg h]
    refine (pad_left V0 b c p 223 223 rfl).trans ?_
    have hq : rf q = rf 223 := by
      unfold rf
      rw [dif_neg (by omega), dif_neg (by omega), dif_neg (by decide), dif_pos (by decide)]
      rfl
    rw [hq]; rfl

set_option maxHeartbeats 1000000 in
/-- The reference's horizontal gradient. -/
theorem gx_apply (b : Fin 32) (c : Fin 3) (i j : Fin 224) :
    (res_main_v36 V0 : FVec Ideal S32x3x224x224 .f32) (ix4 b c i j) = refGx (img (refIn V0) b c) i j := by
  have e (d : ℕ) (hd : d < 3) (k : Fin 224) (h : d + k.val < 226) : (⟨d + k.val, h⟩ : Fin 226) = sh ⟨d, hd⟩ k := rfl
  have e0 (k : Fin 224) (h : k.val < 226) : (⟨k.val, h⟩ : Fin 226) = sh 0 k := by
    apply Fin.ext; show k.val = 0 + k.val; omega
  pointwise [res_main_v36, pad_apply]
  unfold refGx
  rw [ofBits_two, ofBits_negOne, ofBits_negTwo]
  simp only [e 1 (by decide), e 2 (by decide), e0, one_mul]
  rfl

set_option maxHeartbeats 1000000 in
/-- The reference's vertical gradient. -/
theorem gy_apply (b : Fin 32) (c : Fin 3) (i j : Fin 224) :
    (res_main_v71 V0 : FVec Ideal S32x3x224x224 .f32) (ix4 b c i j) = refGy (img (refIn V0) b c) i j := by
  have e (d : ℕ) (hd : d < 3) (k : Fin 224) (h : d + k.val < 226) : (⟨d + k.val, h⟩ : Fin 226) = sh ⟨d, hd⟩ k := rfl
  have e0 (k : Fin 224) (h : k.val < 226) : (⟨k.val, h⟩ : Fin 226) = sh 0 k := by
    apply Fin.ext; show k.val = 0 + k.val; omega
  pointwise [res_main_v71, pad_apply]
  unfold refGy
  rw [ofBits_two, ofBits_negOne, ofBits_negTwo]
  simp only [e 1 (by decide), e 2 (by decide), e0, one_mul]
  rfl

end Cert.Hog
end
-- ==== Proof.Entries.lean ====
/- The entries of the three tables as numbers, and what multiplying by a table does to a column of an image. -/
module

public import proofs.«01_k».proof.Proof.Tables
public import proofs.«01_k».proof.Proof.Final
public import proofs.«01_k».proof.Proof.RefGrad

@[expose] public section

set_option maxRecDepth 16384

noncomputable section

namespace Cert.Hog

open Idealize.ShloMosaic Cert.KernelIdeal

/-- The reflected neighbour before. -/
theorem rf_before (i : Fin 224) : (rf (sh 0 i)).val = if i.val = 0 then 1 else i.val - 1 := by
  unfold rf sh
  dsimp only
  have : (0 : Fin 3).val = 0 := rfl
  split_ifs <;> first | rfl | (exfalso; omega) | (dsimp only; omega)

/-- The pixel itself. -/
theorem rf_at (i : Fin 224) : rf (sh 1 i) = i := by
  apply Fin.ext
  unfold rf sh
  dsimp only
  have : (1 : Fin 3).val = 1 := rfl
  split_ifs <;> first | rfl | (exfalso; omega) | (dsimp only; omega)

/-- The reflected neighbour after. -/
theorem rf_after (i : Fin 224) : (rf (sh 2 i)).val = if i.val = 223 then 222 else i.val + 1 := by
  unfold rf sh
  dsimp only
  have : (2 : Fin 3).val = 2 := rfl
  split_ifs <;> first | rfl | (exfalso; omega) | (dsimp only; omega)

/-- The bf16 word of 2. -/
theorem half_two : Ideal.ofBits .bf16 0x4000#16 = 2 := by
  simp [Ideal.ofBits, Ideal.ieee]
  rw [← EReal.coe_mul, show (128 : ℝ) * (2 ^ 6)⁻¹ = 2 by norm_num]
  rfl
/-- The bf16 word of 1. -/
theorem half_one : Ideal.ofBits .bf16 0x3F80#16 = 1 := by
  simp [Ideal.ofBits, Ideal.ieee]
  try (rw [← EReal.coe_mul]; norm_num)
/-- The bf16 word of −1. -/
theorem half_negOne : Ideal.ofBits .bf16 0xBF80#16 = -1 := by
  simp [Ideal.ofBits, Ideal.ieee]
  try (rw [← EReal.coe_mul]; norm_num)
/-- The bf16 word of 0. -/
theorem half_zero : Ideal.ofBits .bf16 0#16 = 0 := by
  simp [Ideal.ofBits, Ideal.ieee]
/-- The f32 word of 0. -/
theorem ofBits_zero : Ideal.ofBits .f32 0#32 = 0 := by
  simp [Ideal.ofBits, Ideal.ieee]

/-- The natural-number test as a decision. -/
theorem beq_decide (a b : ℕ) : Nat.beq a b = decide (a = b) := by
  cases h : Nat.beq a b
  · exact (decide_eq_false (Nat.ne_of_beq_eq_false h)).symm
  · exact (decide_eq_true (Nat.eq_of_beq_eq_true h)).symm

/-- An entry of the smoothing table, by its word. -/
theorem tabA_word (i r : Fin 224) : tabA (ix2 i r) = Ideal.ofBits .bf16 (BitVec.ofNat 16 (smoothWord i.val r.val)) := by
  have h : lit0t (224 * i.val + r.val) = BitVec.ofNat 16 (smoothWord i.val r.val) := by
    rw [← smooth_at i.val r.val i.isLt r.isLt, BitVec.ofNat_toNat, BitVec.setWidth_eq]
  have hr : (S224x224.rowMajor (ix2 i r)).val = 224 * i.val + r.val := by
    rw [Shape.rowMajor_val_two]; show i.val * 224 + r.val = _; omega
  rw [← h, ← hr]
  rfl

/-- An entry of the difference table, by its word. -/
theorem tabB_word (i r : Fin 224) : tabB (ix2 i r) = Ideal.ofBits .bf16 (BitVec.ofNat 16 (diffWord i.val r.val)) := by
  have h : lit1t (224 * i.val + r.val) = BitVec.ofNat 16 (diffWord i.val r.val) := by
    rw [← diff_at i.val r.val i.isLt r.isLt, BitVec.ofNat_toNat, BitVec.setWidth_eq]
  have hr : (S224x224.rowMajor (ix2 i r)).val = 224 * i.val + r.val := by
    rw [Shape.rowMajor_val_two]; show i.val * 224 + r.val = _; omega
  rw [← h, ← hr]
  rfl

/-- An entry of the pooling table: one where the pixel lies in the cell. -/
theorem tabP_apply (j : Fin 224) (c : Fin 32) : tabP (ix2 j c) = if j.val / 7 = c.val then 1 else 0 := by
  have h : lit2t (32 * j.val + c.val) = BitVec.ofNat 32 (poolWord j.val c.val) := by
    rw [← pool_at j.val c.val j.isLt c.isLt, BitVec.ofNat_toNat, BitVec.setWidth_eq]
  have hr : (S224x32.rowMajor (ix2 j c)).val = 32 * j.val + c.val := by
    rw [Shape.rowMajor_val_two]; show j.val * 32 + c.val = _; omega
  have e : tabP (ix2 j c) = Ideal.ofBits .f32 (BitVec.ofNat 32 (poolWord j.val c.val)) := by
    rw [← h, ← hr]; rfl
  rw [e]
  unfold poolWord
  rw [beq_decide, Bool.cond_decide]
  by_cases hc : j.val / 7 = c.val
  · rw [if_pos hc, if_pos hc]; exact ofBits_one
  · rw [if_neg hc, if_neg hc]; exact ofBits_zero

/-- An entry of the smoothing table times a number. -/
theorem tabA_mul (i r : Fin 224) (y : EReal) : tabA (ix2 i r) * y
    = (if r = rf (sh 0 i) then y else 0) + 2 * (if r = i then y else 0) + (if r = rf (sh 2 i) then y else 0) := by
  have two : (2 : EReal) * y = y + y := by
    rw [show (2 : EReal) = 1 + 1 by norm_num, EReal.right_distrib_of_nonneg (by norm_num) (by norm_num), one_mul]
  rw [tabA_word]
  simp only [Fin.ext_iff, rf_before, rf_after]
  have hi := i.isLt
  have hr := r.isLt
  unfold smoothWord
  simp only [beq_decide, Bool.cond_decide]
  split_ifs <;> first
    | (exfalso; omega)
    | (rw [half_two, two]; simp)
    | (rw [half_two]; simp)
    | (rw [half_one]; simp)
    | (rw [half_zero]; simp)

/-- An entry of the difference table times a number. -/
theorem tabB_mul (i r : Fin 224) (y : EReal) : tabB (ix2 i r) * y
    = if i.val = 0 ∨ i.val = 223 then 0 else (if r = rf (sh 0 i) then y else 0) + (-1) * (if r = rf (sh 2 i) then y else 0) := by
  rw [tabB_word]
  simp only [Fin.ext_iff, rf_before, rf_after]
  have hi := i.isLt
  have hr := r.isLt
  unfold diffWord
  simp only [beq_decide, Bool.cond_decide]
  split_ifs <;> first
    | (exfalso; omega)
    | (rw [half_negOne]; simp)
    | (rw [half_one]; simp)
    | (rw [half_zero]; simp)

/-- A row of the smoothing table against a column: the two reflected neighbours and twice the pixel. -/
theorem smooth_sum (f : Fin 224 → EReal) (i : Fin 224) :
    ∑ k, tabA (ix2 i k) * f k = f (rf (sh 0 i)) + 2 * f i + f (rf (sh 2 i)) := by
  have two (y : EReal) : (2 : EReal) * y = y + y := by
    rw [show (2 : EReal) = 1 + 1 by norm_num, EReal.right_distrib_of_nonneg (by norm_num) (by norm_num), one_mul]
  simp only [tabA_mul, two, Finset.sum_add_distrib, Finset.sum_ite_eq', Finset.mem_univ, if_true]

/-- A row of the difference table against a column, when the neighbour before is a real number. -/
theorem diff_sum (f : Fin 224 → EReal) (i : Fin 224) (hf : ∃ r : ℝ, f (rf (sh 0 i)) = r) :
    ∑ k, tabB (ix2 i k) * f k = f (rf (sh 0 i)) + (-1) * f (rf (sh 2 i)) := by
  simp only [tabB_mul]
  by_cases h : i.val = 0 ∨ i.val = 223
  · have e : rf (sh 2 i) = rf (sh 0 i) := by
      apply Fin.ext; rw [rf_before, rf_after]; split_ifs <;> omega
    obtain ⟨r, hr⟩ := hf
    simp only [h, if_true, Finset.sum_const_zero]
    rw [e, hr, show (-1 : EReal) = ((-1 : ℝ) : EReal) from rfl, ← EReal.coe_mul, ← EReal.coe_add]
    norm_num
  · have e (k : Fin 224) : (-1 : EReal) * (if k = rf (sh 2 i) then f k else 0) = if k = rf (sh 2 i) then (-1) * f k else 0 := by
      split_ifs <;> simp
    simp only [h, if_false, e, Finset.sum_add_distrib, Finset.sum_ite_eq', Finset.mem_univ, if_true]

end Cert.Hog
end
-- ==== Proof.GradEq.lean ====
/- The kernel's gradients at a pixel are the reference's, where the reference's are real numbers. -/
module

public import proofs.«01_k».proof.Proof.Entries

@[expose] public section

set_option maxRecDepth 16384

noncomputable section

namespace Cert.Hog

open Idealize.ShloMosaic Cert.KernelIdeal Cert.KernelIdeal.Gen

/-- Being a real number. -/
def IsReal (x : EReal) : Prop := ∃ r : ℝ, x = r

/-- The terms of a real sum are real. -/
theorem isReal_add {a b : EReal} (h : IsReal (a + b)) : IsReal a ∧ IsReal b := by
  obtain ⟨r, h⟩ := h
  induction a with
  | bot => rw [EReal.bot_add] at h; exact absurd h (EReal.bot_ne_coe r)
  | top =>
    induction b with
    | bot => rw [EReal.add_bot] at h; exact absurd h (EReal.bot_ne_coe r)
    | top => rw [EReal.top_add_top] at h; exact absurd h (EReal.top_ne_coe r)
    | coe b => rw [EReal.top_add_coe] at h; exact absurd h (EReal.top_ne_coe r)
  | coe a =>
    induction b with
    | bot => rw [EReal.add_bot] at h; exact absurd h (EReal.bot_ne_coe r)
    | top => rw [EReal.coe_add_top] at h; exact absurd h (EReal.top_ne_coe r)
    | coe b => exact ⟨⟨a, rfl⟩, ⟨b, rfl⟩⟩

/-- A number is real when a multiple of it by a real number that is not zero is. -/
theorem isReal_mul {c : ℝ} (hc : c ≠ 0) {x : EReal} (h : IsReal ((c : EReal) * x)) : IsReal x := by
  obtain ⟨r, h⟩ := h
  induction x with
  | bot =>
    rcases lt_or_gt_of_ne hc with h0 | h0
    · rw [EReal.coe_mul_bot_of_neg h0] at h; exact absurd h (EReal.top_ne_coe r)
    · rw [EReal.coe_mul_bot_of_pos h0] at h; exact absurd h (EReal.bot_ne_coe r)
  | top =>
    rcases lt_or_gt_of_ne hc with h0 | h0
    · rw [EReal.coe_mul_top_of_neg h0] at h; exact absurd h (EReal.bot_ne_coe r)
    · rw [EReal.coe_mul_top_of_pos h0] at h; exact absurd h (EReal.top_ne_coe r)
  | coe x => exact ⟨x, rfl⟩

/-- A term with weight 1 that is a number has a number in it. -/
theorem isReal_one {x : EReal} (h : IsReal (1 * x)) : IsReal x := by rwa [one_mul] at h
/-- The same with weight -1. -/
theorem isReal_negOne {x : EReal} (h : IsReal ((-1) * x)) : IsReal x := isReal_mul (c := -1) (by norm_num) h
/-- The same with weight 2. -/
theorem isReal_two {x : EReal} (h : IsReal (2 * x)) : IsReal x := isReal_mul (c := 2) (by norm_num) h
/-- The same with weight -2. -/
theorem isReal_negTwo {x : EReal} (h : IsReal ((-2) * x)) : IsReal x := isReal_mul (c := -2) (by norm_num) h

/-- The pixels of a block of one image. -/
def plane (x : FVec Ideal S1x224x224 .f32) : Fin 224 → Fin 224 → EReal := fun i j => x (ix3 0 i j)

/-- A row of the smoothing table against a column of the image. -/
def smoothed (x : FVec Ideal S1x224x224 .f32) (i j : Fin 224) : EReal := ∑ k, tabA (ix2 i k) * plane x k j

/-- A row of the difference table against a column of the image. -/
def differed (x : FVec Ideal S1x224x224 .f32) (i j : Fin 224) : EReal := ∑ k, tabB (ix2 i k) * plane x k j

/-- The column before, reflected, as the kernel reads it. -/
theorem before_of {α : Type} (f : Fin 224 → α) (j : Fin 224) (h1 : 1 + j.val < 224 ∨ ¬ j.val < 1) :
    f (rf (sh 0 j)) = if h : j.val < 1 then f ⟨1 + j.val, by omega⟩ else f ⟨j.val - 1, by omega⟩ := by
  split_ifs with h <;> refine congrArg f (Fin.ext ?_) <;> rw [rf_before] <;> dsimp only <;> split_ifs <;> omega

/-- The column after, reflected, as the kernel reads it. -/
theorem after_of {α : Type} (f : Fin 224 → α) (j : Fin 224) :
    f (rf (sh 2 j)) = if h : j.val < 223 then f ⟨1 + j.val, by omega⟩ else f ⟨222 + (j.val - 223), by omega⟩ := by
  split_ifs with h <;> refine congrArg f (Fin.ext ?_) <;> rw [rf_after] <;> dsimp only <;> split_ifs <;> omega

/-- The kernel's horizontal response. -/
theorem pay4_apply (x : FVec Ideal S1x224x224 .f32) (i j : Fin 224) :
    (k0_pay4 (F := Ideal) x tabA (ix2 i j) : EReal) = smoothed x i (rf (sh 0 j)) - smoothed x i (rf (sh 2 j)) := by
  rw [before_of (smoothed x i) j (by omega), after_of (smoothed x i) j]
  pointwise [k0_pay4, k0_pay3, smoothed, plane]

/-- The kernel's vertical response. -/
theorem pay5_apply (x : FVec Ideal S1x224x224 .f32) (i j : Fin 224) :
    (k0_pay5 (F := Ideal) x tabB (ix2 i j) : EReal) = differed x i (rf (sh 0 j)) + 2 * differed x i j + differed x i (rf (sh 2 j)) := by
  rw [before_of (differed x i) j (by omega), after_of (differed x i) j]
  pointwise [k0_pay5, k0_pay3, differed, plane]
  rw [ofBits_two]

/-- Where the reference's responses are real, the eight neighbours are. -/
theorem real_neighbours (y : Fin 224 → Fin 224 → EReal) (i j : Fin 224) (hx : IsReal (refGx y i j)) (hy : IsReal (refGy y i j)) :
    IsReal (y (rf (sh 0 i)) (rf (sh 0 j))) ∧ IsReal (y (rf (sh 0 i)) j) ∧ IsReal (y (rf (sh 0 i)) (rf (sh 2 j)))
      ∧ IsReal (y i (rf (sh 0 j))) ∧ IsReal (y i (rf (sh 2 j)))
      ∧ IsReal (y (rf (sh 2 i)) (rf (sh 0 j))) ∧ IsReal (y (rf (sh 2 i)) j) ∧ IsReal (y (rf (sh 2 i)) (rf (sh 2 j))) := by
  unfold refGx at hx
  unfold refGy at hy
  simp only [rf_at] at hx hy
  obtain ⟨hx, x8⟩ := isReal_add hx
  obtain ⟨hx, -⟩ := isReal_add hx
  obtain ⟨hx, x6⟩ := isReal_add hx
  obtain ⟨hx, x5⟩ := isReal_add hx
  obtain ⟨hx, -⟩ := isReal_add hx
  obtain ⟨hx, x3⟩ := isReal_add hx
  obtain ⟨hx, x2⟩ := isReal_add hx
  obtain ⟨x0, -⟩ := isReal_add hx
  obtain ⟨hy, -⟩ := isReal_add hy
  obtain ⟨hy, y7⟩ := isReal_add hy
  obtain ⟨hy, -⟩ := isReal_add hy
  obtain ⟨hy, -⟩ := isReal_add hy
  obtain ⟨hy, -⟩ := isReal_add hy
  obtain ⟨hy, -⟩ := isReal_add hy
  obtain ⟨hy, -⟩ := isReal_add hy
  obtain ⟨-, y1⟩ := isReal_add hy
  exact ⟨isReal_one x0, isReal_two y1, isReal_negOne x2, isReal_two x3, isReal_negTwo x5, isReal_one x6, isReal_negTwo y7,
    isReal_negOne x8⟩

/-- Where the reference's responses are real, the kernel's two responses are they. -/
theorem responses_eq (x : FVec Ideal S1x224x224 .f32) (i j : Fin 224) (hx : IsReal (refGx (plane x) i j))
    (hy : IsReal (refGy (plane x) i j)) :
    (k0_pay4 (F := Ideal) x tabA (ix2 i j) : EReal) = refGx (plane x) i j ∧ (k0_pay5 (F := Ideal) x tabB (ix2 i j) : EReal) = refGy (plane x) i j := by
  obtain ⟨h0, h1, h2, h3, h5, h6, h7, h8⟩ := real_neighbours (plane x) i j hx hy
  rw [pay4_apply, pay5_apply]
  unfold smoothed differed refGx refGy
  rw [smooth_sum (fun k => plane x k (rf (sh 0 j))), smooth_sum (fun k => plane x k (rf (sh 2 j))),
    diff_sum (fun k => plane x k (rf (sh 0 j))) i h0, diff_sum (fun k => plane x k (rf (sh 2 j))) i h2,
    diff_sum (fun k => plane x k j) i h1]
  simp only [rf_at, zero_mul, one_mul, add_zero]
  obtain ⟨r0, h0⟩ := h0
  obtain ⟨r1, h1⟩ := h1
  obtain ⟨r2, h2⟩ := h2
  obtain ⟨r3, h3⟩ := h3
  obtain ⟨r5, h5⟩ := h5
  obtain ⟨r6, h6⟩ := h6
  obtain ⟨r7, h7⟩ := h7
  obtain ⟨r8, h8⟩ := h8
  rw [h0, h1, h2, h3, h5, h6, h7, h8]
  constructor
  · show ((r0 : EReal) + (2 : ℝ) * r3 + r6) - (r2 + (2 : ℝ) * r5 + r8)
      = r0 + ((-1 : ℝ) : EReal) * r2 + (2 : ℝ) * r3 + ((-2 : ℝ) : EReal) * r5 + r6 + ((-1 : ℝ) : EReal) * r8
    simp only [← EReal.coe_mul, ← EReal.coe_add, ← EReal.coe_sub]
    congr 1
    ring
  · show ((r0 : EReal) + ((-1 : ℝ) : EReal) * r6) + (2 : ℝ) * (r1 + ((-1 : ℝ) : EReal) * r7) + (r2 + ((-1 : ℝ) : EReal) * r8)
      = r0 + (2 : ℝ) * r1 + r2 + ((-1 : ℝ) : EReal) * r6 + ((-2 : ℝ) : EReal) * r7 + ((-1 : ℝ) : EReal) * r8
    simp only [← EReal.coe_mul, ← EReal.coe_add, ← EReal.coe_sub]
    congr 1
    ring

end Cert.Hog
end
-- ==== Proof.RefAt.lean ====
/- The reference at an index: its one-hot selection, its sums over cells, and its division. -/
module

public import proofs.«01_k».proof.Proof.Entries
public import Idealize.ShloMosaic.Lib.IdealHost

@[expose] public section

set_option maxRecDepth 16384

noncomputable section

namespace Cert.Hog

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The reference's last step: a cell's nine sums over the larger of their length and a small bound. -/
def refOut (w : FVec Ideal S32x3x9x32x32 .f32) : FVec Ideal S96x9x32x32 .f32 :=
 shapeCast _ (Host.divf w (broadcastInDim S32x3x9x32x32 ![0, 1, 2, 3, 4] bcast_S32x3x1x32x32_S32x3x9x32x32_0_1_2_3_4 (maximumf (Host.sqrt (broadcastInDim S32x3x1x32x32 ![0, 1, 3, 4] bcast_S32x3x32x32_S32x3x1x32x32_0_1_3_4 (Host.reduceAdd (mulf w w) (constant S_ .f32 0x00000000#32) reducesTo_S32x3x9x32x32_S32x3x32x32_d2 h_S_))) (broadcastInDim S32x3x1x32x32 ![] bcast_S_S32x3x1x32x32 (constant S_ .f32 0x2B8CBCCC#32))))) shapeCasts_S32x3x9x32x32_S96x9x32x32

/-- The last step at an index. -/
theorem refOut_apply (w : FVec Ideal S32x3x9x32x32 .f32) (n : Fin 96) (k : Fin 9) (r c : Fin 32) :
    (refOut w (ix4 n k r c) : EReal)
      = Ideal.div (w (ix5 ⟨n.val / 3, by omega⟩ ⟨n.val % 3, by omega⟩ k r c))
          (max (Ideal.sqrt (∑ x : Fin 9, (w (ix5 ⟨n.val / 3, by omega⟩ ⟨n.val % 3, by omega⟩ x r c) : EReal)
              * w (ix5 ⟨n.val / 3, by omega⟩ ⟨n.val % 3, by omega⟩ x r c))) (Ideal.ofBits FTy.f32 730643660#32)) := by
  unfold refOut
  rw [shapeCast_apply _ _ (ix4 n k r c) (ix5 ⟨n.val / 3, by omega⟩ ⟨n.val % 3, by omega⟩ k r c) (by
    rw [Shape.rowMajor_val_four, Shape.rowMajor_val_five]
    show (((n.val / 3 * 3 + n.val % 3) * 9 + k.val) * 32 + r.val) * 32 + c.val = ((n.val * 9 + k.val) * 32 + r.val) * 32 + c.val
    omega)]
  pointwise []

/-- The reference's one-hot array. -/
def refSel : FVec Ideal S32x3x9x224x224 .f32 :=
  (select (cmpi .eq (broadcastInDim S32x3x9x224x224 ![0, 1, 2, 3, 4] bcast_S32x3x1x224x224_S32x3x9x224x224_0_1_2_3_4 (broadcastInDim S32x3x1x224x224 ![0, 1, 3, 4] bcast_S32x3x224x224_S32x3x1x224x224_0_1_3_4 (select (andi (cmpi .ne (cmpi .slt (res_main_call1_v4 V0) (broadcastInDim S32x3x224x224 ![] bcast_S_S32x3x224x224 (constantI S_ 32 0#32))) (broadcastInDim S32x3x224x224 ![] bcast_S_S32x3x224x224 (cmpi .slt (res_main_call1_v2 V0) (constantI S_ 32 0#32)))) (cmpi .ne (res_main_call1_v4 V0) (broadcastInDim S32x3x224x224 ![] bcast_S_S32x3x224x224 (constantI S_ 32 0#32)))) (addi (res_main_call1_v4 V0) (broadcastInDim S32x3x224x224 ![] bcast_S_S32x3x224x224 (res_main_call1_v2 V0))) (res_main_call1_v4 V0)))) (broadcastInDim S32x3x9x224x224 ![0, 1, 2, 3, 4] bcast_S1x1x9x1x1_S32x3x9x224x224_0_1_2_3_4 (broadcastInDim S1x1x9x1x1 ![2] bcast_S9_S1x1x9x1x1_2 (iotaInDim S9 32 0)))) (broadcastInDim S32x3x9x224x224 ![0, 1, 2, 3, 4] bcast_S32x3x1x224x224_S32x3x9x224x224_0_1_2_3_4 (broadcastInDim S32x3x1x224x224 ![0, 1, 3, 4] bcast_S32x3x224x224_S32x3x1x224x224_0_1_3_4 (Host.sqrt (addf (mulf (res_main_v36 V0) (res_main_v36 V0)) (mulf (res_main_v71 V0) (res_main_v71 V0)))))) (broadcastInDim S32x3x9x224x224 ![] bcast_S_S32x3x9x224x224 (id (constant S_ .f32 0x00000000#32))))

/-- The sums per cell are the one-hot array's, reshaped into cells. -/
theorem v94_eq : (res_main_v94 V0 : FVec Ideal S32x3x9x32x32 .f32) = Host.reduceAdd (shapeCast _ (refSel V0) shapeCasts_S32x3x9x224x224_S32x3x9x32x7x32x7) (constant S_ .f32 0x00000000#32) reducesTo_S32x3x9x32x7x32x7_S32x3x9x32x32_d4_6 h_S_ := rfl

/-- The bin's word of the reference at a pixel with responses `g` and `h`, before it is brought into range. -/
def rawBin (g h : EReal) : BitVec 32 :=
  FloatOps.fptosi (F := Ideal) (φ := .f32) 32 (Ideal.liftRound Int.floor (Ideal.div (Ideal.atan2 g h)
    (Ideal.atan2 (Ideal.ofBits .f32 0#32) (Ideal.ofBits .f32 3212836864#32)) * Ideal.ofBits .f32 1091567616#32))

/-- The nonnegative remainder by nine, as the reference computes it. -/
def wrap (w : BitVec 32) : BitVec 32 :=
  Scalar.select (IntOp.andi (IntOp.cmpi .ne (IntOp.cmpi .slt (IntOp.remsi .host w 9#32) 0#32) (IntOp.cmpi .slt (9#32 : BitVec 32) 0#32))
    (IntOp.cmpi .ne (IntOp.remsi .host w 9#32) 0#32)) (IntOp.addi (IntOp.remsi .host w 9#32) 9#32) (IntOp.remsi .host w 9#32)

/-- What a pixel with responses `g` and `h` adds to bin `k` of the reference. -/
def refPixel (k : Fin 9) (g h : EReal) : EReal :=
  Scalar.select (IntOp.cmpi .eq (wrap (rawBin g h)) (BitVec.ofNat 32 k.val)) (Ideal.sqrt (g * g + h * h)) 0

/-- The one-hot array at an index. -/
theorem refSel_apply (b : Fin 32) (c : Fin 3) (k : Fin 9) (i j : Fin 224) :
    (refSel V0 (ix5 b c k i j) : EReal) = refPixel k (refGx (img (refIn V0) b c) i j) (refGy (img (refIn V0) b c) i j) := by
  pointwise [refSel, res_main_call1_v4, res_main_call1_v2, res_main_call1_v0, gx_apply, gy_apply]
  have hD : Scalar.select (IntOp.cmpi .eq (id (constantI S_ 32 9#32) ix0) 0#32) 1#32 (id (constantI S_ 32 9#32) ix0) = 9#32 := by
    decide
  have h0 : (id (constant (F := Ideal) S_ FTy.f32 0#32) ix0 : EReal) = 0 := ofBits_zero
  rw [hD, h0]
  rfl

/-- The row-major position of an index of seven axes. -/
theorem position_seven {d : Fin 7 → Nat} (i : (⟨7, d⟩ : Shape).Idx) : ((⟨7, d⟩ : Shape).rowMajor i).val
    = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A sum over the two axes inside the cells. -/
theorem sum_cells (x : S32x3x9x32x7x32x7.Idx → EReal) (b : Fin 32) (c : Fin 3) (k : Fin 9) (r q : Fin 32) :
    ∑ i ∈ Finset.univ.filter (fun i => reducesTo_S32x3x9x32x7x32x7_S32x3x9x32x32_d4_6.drop i = ix5 b c k r q), x i
      = ∑ p : Fin 7, ∑ s : Fin 7, x (ix7 b c k r p q s) := by
  have hd : ∀ i : S32x3x9x32x7x32x7.Idx, reducesTo_S32x3x9x32x7x32x7_S32x3x9x32x32_d4_6.drop i
      = ix5 (i 0) (i 1) (i 2) (i 3) (i 5) := fun i => by
    funext a; match a with | ⟨0, _⟩ => rfl | ⟨1, _⟩ => rfl | ⟨2, _⟩ => rfl | ⟨3, _⟩ => rfl | ⟨4, _⟩ => rfl
  have hb : ∀ i : S32x3x9x32x7x32x7.Idx, reducesTo_S32x3x9x32x7x32x7_S32x3x9x32x32_d4_6.drop i = ix5 b c k r q →
      ix7 b c k r (i 4) q (i 6) = i := fun i h => by
    rw [hd] at h
    funext a
    match a with
    | ⟨0, _⟩ => exact (congrFun h 0).symm
    | ⟨1, _⟩ => exact (congrFun h 1).symm
    | ⟨2, _⟩ => exact (congrFun h 2).symm
    | ⟨3, _⟩ => exact (congrFun h 3).symm
    | ⟨4, _⟩ => rfl
    | ⟨5, _⟩ => exact (congrFun h 4).symm
    | ⟨6, _⟩ => rfl
  rw [← Fintype.sum_prod_type' (f := fun p s : Fin 7 => x (ix7 b c k r p q s))]
  refine Finset.sum_bij' (fun i _ => ((i 4, i 6) : Fin 7 × Fin 7)) (fun e _ => ix7 b c k r e.1 q e.2) (fun _ _ => Finset.mem_univ _)
    (fun e _ => Finset.mem_filter.2 ⟨Finset.mem_univ _, hd _⟩) (fun i hi => hb i (Finset.mem_filter.1 hi).2) (fun _ _ => rfl) ?_
  intro i hi
  exact (congrArg x (hb i (Finset.mem_filter.1 hi).2)).symm

/-- The reference's sum of a cell: over its 49 pixels. -/
theorem v94_apply (b : Fin 32) (c : Fin 3) (k : Fin 9) (r q : Fin 32) :
    ((res_main_v94 V0 : FVec Ideal S32x3x9x32x32 .f32) (ix5 b c k r q) : EReal)
      = ∑ p : Fin 7, ∑ s : Fin 7, refPixel k (refGx (img (refIn V0) b c) ⟨7 * r.val + p.val, by omega⟩ ⟨7 * q.val + s.val, by omega⟩)
          (refGy (img (refIn V0) b c) ⟨7 * r.val + p.val, by omega⟩ ⟨7 * q.val + s.val, by omega⟩) := by
  rw [v94_eq]
  have hs : ∀ (p s : Fin 7), shapeCast _ (refSel V0) shapeCasts_S32x3x9x224x224_S32x3x9x32x7x32x7 (ix7 b c k r p q s)
      = refSel V0 (ix5 b c k ⟨7 * r.val + p.val, by omega⟩ ⟨7 * q.val + s.val, by omega⟩) := fun p s => by
    refine shapeCast_apply _ _ _ _ ?_
    rw [position_seven, Shape.rowMajor_val_five]
    show (((b.val * 3 + c.val) * 9 + k.val) * 224 + (7 * r.val + p.val)) * 224 + (7 * q.val + s.val)
      = (((((b.val * 3 + c.val) * 9 + k.val) * 32 + r.val) * 7 + p.val) * 32 + q.val) * 7 + s.val
    ring
  refine Eq.trans (b := (0 : EReal) + ∑ i ∈ Finset.univ.filter (fun i => reducesTo_S32x3x9x32x7x32x7_S32x3x9x32x32_d4_6.drop i = ix5 b c k r q),
    shapeCast _ (refSel V0) shapeCasts_S32x3x9x224x224_S32x3x9x32x7x32x7 i) ?_ ?_
  · rw [ValueIdx.hostReduceAdd_apply]
    exact congrArg (· + _) ofBits_zero
  · rw [zero_add, sum_cells]
    refine Finset.sum_congr rfl fun p _ => Finset.sum_congr rfl fun s _ => ?_
    rw [hs, refSel_apply]

end Cert.Hog
end
-- ==== Proof.Tangent.lean ====
/- Numerical bounds for the tangents of the eight slanted bin edges. -/
module

public import Mathlib.Analysis.SpecialFunctions.Trigonometric.Arctan
public import Idealize.ShloMosaic.Lib.Pointwise

@[expose] public section

noncomputable section

namespace Cert.Hog

/-- If the cosine of three times `x` has square one quarter, the tangent of `x` is a root of a cubic in its square. -/
theorem tan_root (x : ℝ) (hc : Real.cos x ≠ 0) (h3 : Real.cos (3 * x) ^ 2 = 1 / 4) :
    (Real.tan x ^ 2) ^ 3 - 33 * (Real.tan x ^ 2) ^ 2 + 27 * Real.tan x ^ 2 - 3 = 0 := by
  have hs : Real.sin (3 * x) ^ 2 = 3 / 4 := by have := Real.sin_sq_add_cos_sq (3 * x); linarith
  have e : Real.sin (3 * x) ^ 2 = 3 * Real.cos (3 * x) ^ 2 := by rw [hs, h3]; norm_num
  have p := Real.sin_sq_add_cos_sq x
  rw [Real.sin_three_mul, Real.cos_three_mul] at e
  have e1 : 3 * Real.sin x - 4 * Real.sin x ^ 3 = 3 * Real.sin x * Real.cos x ^ 2 - Real.sin x ^ 3 := by
    linear_combination (-3 * Real.sin x) * p
  have e2 : 4 * Real.cos x ^ 3 - 3 * Real.cos x = Real.cos x ^ 3 - 3 * Real.cos x * Real.sin x ^ 2 := by
    linear_combination (3 * Real.cos x) * p
  rw [e1, e2] at e
  have hsin : Real.sin x = Real.tan x * Real.cos x := (Real.tan_mul_cos hc).symm
  rw [hsin] at e
  have e3 : Real.cos x ^ 6 * ((Real.tan x ^ 2) ^ 3 - 33 * (Real.tan x ^ 2) ^ 2 + 27 * Real.tan x ^ 2 - 3) = 0 := by
    linear_combination e
  exact (mul_eq_zero.mp e3).resolve_left (pow_ne_zero _ hc)

/-- The tangents at a sixth, two sixths of a straight angle squared. -/
theorem tan_sq_sixth : Real.tan (Real.pi / 6) ^ 2 = 1 / 3 := by
  rw [Real.tan_pi_div_six, div_pow, Real.sq_sqrt (by norm_num)]; norm_num
/-- The square of the tangent of a sixth of a turn. -/
theorem tan_sq_third : Real.tan (Real.pi / 3) ^ 2 = 3 := by
  rw [Real.tan_pi_div_three, Real.sq_sqrt (by norm_num)]

/-- Squares of tangents grow with the angle. -/
theorem tan_sq_lt {x y : ℝ} (hx : 0 ≤ x) (hy : y < Real.pi / 2) (h : x < y) : Real.tan x ^ 2 < Real.tan y ^ 2 := by
  have h0 : 0 ≤ Real.tan x := Real.tan_nonneg_of_nonneg_of_le_pi_div_two hx (by linarith)
  exact pow_lt_pow_left₀ (Real.tan_lt_tan_of_nonneg_of_lt_pi_div_two hx hy h) h0 two_ne_zero

/-- A root `s` of the cubic, in one of its three intervals, lies between two rationals at which the cubic changes sign. -/
theorem tan_mem {x l u : ℝ} (hx : 0 < x) (hx2 : x < Real.pi / 2) (hl : 0 ≤ l) (hu : 0 ≤ u)
    (h : l ^ 2 < Real.tan x ^ 2 ∧ Real.tan x ^ 2 < u ^ 2) : l < Real.tan x ∧ Real.tan x < u := by
  have h0 : 0 < Real.tan x := Real.tan_pos_of_pos_of_lt_pi_div_two hx hx2
  exact ⟨lt_of_pow_lt_pow_left₀ 2 h0.le h.1, lt_of_pow_lt_pow_left₀ 2 hu h.2⟩

/-- The cubic of the first edge's tangent. -/
theorem tan_root1 : (fun s : ℝ => s ^ 3 - 33 * s ^ 2 + 27 * s - 3 = 0) (Real.tan (Real.pi / 9) ^ 2) := by
  have hp := Real.pi_pos
  refine tan_root _ (Real.cos_pos_of_mem_Ioo ⟨by linarith, by linarith⟩).ne' ?_
  rw [show 3 * (Real.pi / 9) = Real.pi / 3 by ring, Real.cos_pi_div_three]; norm_num
/-- The cubic of the second edge's tangent. -/
theorem tan_root2 : (fun s : ℝ => s ^ 3 - 33 * s ^ 2 + 27 * s - 3 = 0) (Real.tan (2 * Real.pi / 9) ^ 2) := by
  have hp := Real.pi_pos
  refine tan_root _ (Real.cos_pos_of_mem_Ioo ⟨by linarith, by linarith⟩).ne' ?_
  rw [show 3 * (2 * Real.pi / 9) = Real.pi - Real.pi / 3 by ring, Real.cos_pi_sub, Real.cos_pi_div_three]; norm_num
/-- The cubic of the fourth edge's tangent. -/
theorem tan_root4 : (fun s : ℝ => s ^ 3 - 33 * s ^ 2 + 27 * s - 3 = 0) (Real.tan (4 * Real.pi / 9) ^ 2) := by
  have hp := Real.pi_pos
  refine tan_root _ (Real.cos_pos_of_mem_Ioo ⟨by linarith, by linarith⟩).ne' ?_
  rw [show 3 * (4 * Real.pi / 9) = Real.pi / 3 + Real.pi by ring, Real.cos_add_pi, Real.cos_pi_div_three]; norm_num

/-- Two numbers at which the cubic has values of opposite signs, on an interval where it is monotone. -/
theorem root_between {s a b : ℝ} (e : s ^ 3 - 33 * s ^ 2 + 27 * s - 3 = 0) (σ : ℝ)
    (ha : 0 < σ * ((s ^ 2 + s * a + a ^ 2) - 33 * (s + a) + 27)) (hb : 0 < σ * ((s ^ 2 + s * b + b ^ 2) - 33 * (s + b) + 27))
    (pa : σ * (a ^ 3 - 33 * a ^ 2 + 27 * a - 3) < 0) (pb : 0 < σ * (b ^ 3 - 33 * b ^ 2 + 27 * b - 3)) : a < s ∧ s < b := by
  constructor
  · have : 0 < (s - a) * (σ * ((s ^ 2 + s * a + a ^ 2) - 33 * (s + a) + 27)) := by
      have : (s - a) * (σ * ((s ^ 2 + s * a + a ^ 2) - 33 * (s + a) + 27)) = - (σ * (a ^ 3 - 33 * a ^ 2 + 27 * a - 3)) := by
        linear_combination σ * e
      rw [this]; linarith
    have := (mul_pos_iff_of_pos_right ha).mp this
    linarith
  · have : 0 < (b - s) * (σ * ((s ^ 2 + s * b + b ^ 2) - 33 * (s + b) + 27)) := by
      have : (b - s) * (σ * ((s ^ 2 + s * b + b ^ 2) - 33 * (s + b) + 27)) = (σ * (b ^ 3 - 33 * b ^ 2 + 27 * b - 3)) := by
        linear_combination (-σ) * e
      rw [this]; linarith
    have := (mul_pos_iff_of_pos_right hb).mp this
    linarith

/-- The tangent of 20 degrees, within a part in a hundred million. -/
theorem tan1 : (0.363970234 : ℝ) < Real.tan (Real.pi / 9) ∧ Real.tan (Real.pi / 9) < 0.363970235 := by
  have hp := Real.pi_pos
  refine tan_mem (by linarith) (by linarith) (by norm_num) (by norm_num) ?_
  have h0 : 0 ≤ Real.tan (Real.pi / 9) ^ 2 := sq_nonneg _
  have h1 : Real.tan (Real.pi / 9) ^ 2 < 1 / 3 := tan_sq_sixth ▸ tan_sq_lt (by linarith) (by linarith) (by linarith)
  have e := tan_root1
  generalize Real.tan (Real.pi / 9) ^ 2 = s at h0 h1 e ⊢
  refine root_between e 1 ?_ ?_ ?_ ?_ <;> norm_num <;> nlinarith

/-- The tangent of 40 degrees, within a part in a hundred million. -/
theorem tan2 : (0.839099631 : ℝ) < Real.tan (2 * Real.pi / 9) ∧ Real.tan (2 * Real.pi / 9) < 0.839099632 := by
  have hp := Real.pi_pos
  refine tan_mem (by linarith) (by linarith) (by norm_num) (by norm_num) ?_
  have h0 : 1 / 3 < Real.tan (2 * Real.pi / 9) ^ 2 := tan_sq_sixth ▸ tan_sq_lt (by linarith) (by linarith) (by linarith)
  have h1 : Real.tan (2 * Real.pi / 9) ^ 2 < 3 := tan_sq_third ▸ tan_sq_lt (by linarith) (by linarith) (by linarith)
  have e := tan_root2
  generalize Real.tan (2 * Real.pi / 9) ^ 2 = s at h0 h1 e ⊢
  refine root_between e (-1) ?_ ?_ ?_ ?_ <;> norm_num <;> nlinarith

/-- The tangent of 80 degrees, within a part in a hundred million. -/
theorem tan4 : (5.67128181 : ℝ) < Real.tan (4 * Real.pi / 9) ∧ Real.tan (4 * Real.pi / 9) < 5.67128182 := by
  have hp := Real.pi_pos
  refine tan_mem (by linarith) (by linarith) (by norm_num) (by norm_num) ?_
  have h0 : 3 < Real.tan (4 * Real.pi / 9) ^ 2 := tan_sq_third ▸ tan_sq_lt (by linarith) (by linarith) (by linarith)
  have e := tan_root4
  generalize Real.tan (4 * Real.pi / 9) ^ 2 = s at h0 e ⊢
  refine root_between e 1 ?_ ?_ ?_ ?_ <;> norm_num <;> nlinarith

/-- The tangent of 60 degrees, within a part in a hundred million. -/
theorem tan3 : (1.732050807 : ℝ) < Real.tan (3 * Real.pi / 9) ∧ Real.tan (3 * Real.pi / 9) < 1.732050808 := by
  have hp := Real.pi_pos
  refine tan_mem (by linarith) (by linarith) (by norm_num) (by norm_num) ?_
  rw [show 3 * Real.pi / 9 = Real.pi / 3 by ring, tan_sq_third]; norm_num

end Cert.Hog

end
-- ==== Proof.Pixel.lean ====
/- One pixel: the bin that the comparisons of slopes choose is the bin that the angle chooses. -/
module

public import proofs.«01_k».proof.Proof.Tangent

@[expose] public section

noncomputable section

namespace Cert.Hog

open Idealize.ShloMosaic

/-- The binary32 words of the eight slopes, read as rationals over a power of two. -/
def slope : ℕ → ℝ
  | 1 => 12212814 / 2 ^ 25
  | 2 => 14077756 / 2 ^ 24
  | 3 => 14529495 / 2 ^ 23
  | 4 => 11893540 / 2 ^ 21
  | 5 => -(11893540 / 2 ^ 21)
  | 6 => -(14529495 / 2 ^ 23)
  | 7 => -(14077756 / 2 ^ 24)
  | 8 => -(12212814 / 2 ^ 25)
  | _ => 0

/-- The binary32 word nearest to one ten-millionth, read as a rational. -/
def tiny : ℝ := 14073749 / 2 ^ 47

/-- The kernel's constant for edge 1 is its slope. -/
theorem ofBits_slope1 : Ideal.ofBits .f32 0x3EBA5A4E#32 = ((slope 1 : ℝ) : EReal) := by
  simp [Ideal.ofBits, Ideal.ieee, slope]; rw [← EReal.coe_mul]; norm_num
/-- The kernel's constant for edge 2 is its slope. -/
theorem ofBits_slope2 : Ideal.ofBits .f32 0x3F56CF3C#32 = ((slope 2 : ℝ) : EReal) := by
  simp [Ideal.ofBits, Ideal.ieee, slope]; rw [← EReal.coe_mul]; norm_num
/-- The kernel's constant for edge 3 is its slope. -/
theorem ofBits_slope3 : Ideal.ofBits .f32 0x3FDDB3D7#32 = ((slope 3 : ℝ) : EReal) := by
  simp [Ideal.ofBits, Ideal.ieee, slope]; rw [← EReal.coe_mul]; norm_num
/-- The kernel's constant for edge 4 is its slope. -/
theorem ofBits_slope4 : Ideal.ofBits .f32 0x40B57B24#32 = ((slope 4 : ℝ) : EReal) := by
  simp [Ideal.ofBits, Ideal.ieee, slope]; rw [← EReal.coe_mul]; norm_num
/-- The kernel's constant for edge 5 is its slope. -/
theorem ofBits_slope5 : Ideal.ofBits .f32 0xC0B57B24#32 = ((slope 5 : ℝ) : EReal) := by
  simp [Ideal.ofBits, Ideal.ieee, slope]; rw [← EReal.coe_mul]; norm_num
/-- The kernel's constant for edge 6 is its slope. -/
theorem ofBits_slope6 : Ideal.ofBits .f32 0xBFDDB3D7#32 = ((slope 6 : ℝ) : EReal) := by
  simp [Ideal.ofBits, Ideal.ieee, slope]; rw [← EReal.coe_mul]; norm_num
/-- The kernel's constant for edge 7 is its slope. -/
theorem ofBits_slope7 : Ideal.ofBits .f32 0xBF56CF3C#32 = ((slope 7 : ℝ) : EReal) := by
  simp [Ideal.ofBits, Ideal.ieee, slope]; rw [← EReal.coe_mul]; norm_num
/-- The kernel's constant for edge 8 is its slope. -/
theorem ofBits_slope8 : Ideal.ofBits .f32 0xBEBA5A4E#32 = ((slope 8 : ℝ) : EReal) := by
  simp [Ideal.ofBits, Ideal.ieee, slope]; rw [← EReal.coe_mul]; norm_num
/-- The mask's relative distance as a number. -/
theorem ofBits_tiny : Ideal.ofBits .f32 0x33D6BF95#32 = ((tiny : ℝ) : EReal) := by
  simp [Ideal.ofBits, Ideal.ieee, tiny]; rw [← EReal.coe_mul]; norm_num

/-- Each slope is within a relative `tiny` of the tangent it stands for. -/
theorem slope_near (k : ℕ) (h1 : 1 ≤ k) (h8 : k ≤ 8) :
    |slope k - Real.tan (k * Real.pi / 9)| < tiny * |slope k| := by
  have e5 : Real.tan (5 * Real.pi / 9) = -Real.tan (4 * Real.pi / 9) := by
    rw [show 5 * Real.pi / 9 = Real.pi - 4 * Real.pi / 9 by ring, Real.tan_pi_sub]
  have e6 : Real.tan (6 * Real.pi / 9) = -Real.tan (3 * Real.pi / 9) := by
    rw [show 6 * Real.pi / 9 = Real.pi - 3 * Real.pi / 9 by ring, Real.tan_pi_sub]
  have e7 : Real.tan (7 * Real.pi / 9) = -Real.tan (2 * Real.pi / 9) := by
    rw [show 7 * Real.pi / 9 = Real.pi - 2 * Real.pi / 9 by ring, Real.tan_pi_sub]
  have e8 : Real.tan (8 * Real.pi / 9) = -Real.tan (Real.pi / 9) := by
    rw [show 8 * Real.pi / 9 = Real.pi - Real.pi / 9 by ring, Real.tan_pi_sub]
  obtain ⟨a1, b1⟩ := tan1
  obtain ⟨a2, b2⟩ := tan2
  obtain ⟨a3, b3⟩ := tan3
  obtain ⟨a4, b4⟩ := tan4
  interval_cases k <;> simp only [slope, tiny, Nat.cast_ofNat, Nat.cast_one, one_mul, e5, e6, e7, e8] <;>
    rw [abs_lt] <;> (try rw [abs_neg]) <;> rw [abs_of_pos (by norm_num)] <;> constructor <;> linarith

/-- A point off the edge of slope `T` by the relative margin is on the same side of any line whose slope differs from
    `T` by less than the margin. -/
theorem side_iff {T t ε u v : ℝ} (hT : |T - t| < ε * |T|) (h : ε * |T * u| ≤ |v - T * u|) (huv : u ≠ 0 ∨ v ≠ 0) :
    (T * u ≤ v ↔ t * u ≤ v) ∧ (v ≤ T * u ↔ v ≤ t * u) := by
  by_cases hu : u = 0
  · subst hu; simp
  have hlt : |T * u - t * u| < ε * |T * u| := by
    rw [← sub_mul, abs_mul, abs_mul, ← mul_assoc]
    exact mul_lt_mul_of_pos_right hT (abs_pos.mpr hu)
  have h2 := lt_of_lt_of_le hlt h
  have h3 : |T * u - t * u| < |v - T * u| := h2
  rcases abs_cases (T * u - t * u) with ⟨p, p'⟩ | ⟨p, p'⟩ <;> rcases abs_cases (v - T * u) with ⟨q, q'⟩ | ⟨q, q'⟩ <;>
    rw [p, q] at h3 <;> refine ⟨⟨fun _ => ?_, fun _ => ?_⟩, fun _ => ?_, fun _ => ?_⟩ <;> linarith

/-- The angle in `[0, π)` of the line through the origin and a point of the upper half plane. -/
def lineAngle (u v : ℝ) : ℝ :=
  if 0 < u then Real.arctan (v / u) else if u < 0 then Real.arctan (v / u) + Real.pi else Real.pi / 2

/-- The point itself or its opposite, whichever lies in the upper half plane. -/
def flipped (a b : ℝ) : Prop := a < 0 ∨ (a = 0 ∧ b < 0)

/-- The angle of a line lies between 0 and a half turn, the half turn left out. -/
theorem lineAngle_range {u v : ℝ} (hv : 0 ≤ v) (h0 : v = 0 → 0 < u) : 0 ≤ lineAngle u v ∧ lineAngle u v < Real.pi := by
  have hp := Real.pi_pos
  have h1 := Real.arctan_lt_pi_div_two (v / u)
  have h2 := Real.neg_pi_div_two_lt_arctan (v / u)
  unfold lineAngle
  split_ifs with hu hu'
  · have : 0 ≤ Real.arctan (v / u) := Real.arctan_nonneg.mpr (div_nonneg hv hu.le)
    constructor <;> linarith
  · have hv' : 0 < v := lt_of_le_of_ne hv fun e => absurd (h0 e.symm) (by linarith)
    have : Real.arctan (v / u) < 0 := Real.arctan_lt_zero.mpr (div_neg_of_pos_of_neg hv' hu')
    constructor <;> linarith
  · constructor <;> linarith

/-- Below the right angle, the line is past an edge when it lies above the edge's tangent. -/
theorem past_low {u v φ : ℝ} (hv : 0 ≤ v) (h0 : v = 0 → 0 < u) (hφ : 0 < φ) (hφ2 : φ < Real.pi / 2) :
    φ ≤ lineAngle u v ↔ Real.tan φ * u ≤ v := by
  have hp := Real.pi_pos
  have h2 := Real.neg_pi_div_two_lt_arctan (v / u)
  have ht : 0 < Real.tan φ := Real.tan_pos_of_pos_of_lt_pi_div_two hφ hφ2
  unfold lineAngle
  split_ifs with hu hu'
  · rw [← le_div_iff₀ hu]
    conv_lhs => rw [← Real.arctan_tan (x := φ) (by linarith) hφ2]
    exact Real.arctan_strictMono.le_iff_le
  · refine iff_of_true (by linarith) ((mul_nonpos_of_nonneg_of_nonpos ht.le hu'.le).trans hv)
  · have hu0 : u = 0 := le_antisymm (not_lt.mp hu) (not_lt.mp hu')
    subst hu0
    refine iff_of_true hφ2.le (by simpa using hv)

/-- Above the right angle, the line is past an edge when it lies below the edge's tangent. -/
theorem past_high {u v φ : ℝ} (hv : 0 ≤ v) (h0 : v = 0 → 0 < u) (hφ : Real.pi / 2 < φ) (hφ2 : φ < Real.pi) :
    φ ≤ lineAngle u v ↔ v ≤ Real.tan φ * u := by
  have hp := Real.pi_pos
  have h1 := Real.arctan_lt_pi_div_two (v / u)
  have ht : Real.tan φ < 0 := by
    rw [← Real.tan_sub_pi]; exact Real.tan_neg_of_neg_of_pi_div_two_lt (by linarith) (by linarith)
  unfold lineAngle
  split_ifs with hu hu'
  · refine iff_of_false (by linarith) (not_le.mpr ((mul_neg_of_neg_of_pos ht hu).trans_le hv))
  · rw [← le_div_iff_of_neg hu', ← Real.tan_sub_pi, ← sub_le_iff_le_add]
    conv_lhs => rw [← Real.arctan_tan (x := φ - Real.pi) (by linarith) (by linarith)]
    exact Real.arctan_strictMono.le_iff_le
  · have hu0 : u = 0 := le_antisymm (not_lt.mp hu) (not_lt.mp hu')
    subst hu0
    have hv' : 0 < v := lt_of_le_of_ne hv fun e => absurd (h0 e.symm) (lt_irrefl _)
    refine iff_of_false (by linarith) (by simpa using hv')

/-- The angle of a nonzero gradient is the angle of its line, up to a half turn. -/
theorem atan2_eq {a b : ℝ} (h : a ≠ 0 ∨ b ≠ 0) :
    (¬ flipped a b ∧ Ideal.atan2 (a : EReal) (b : EReal) = ((lineAngle b a : ℝ) : EReal))
    ∨ (flipped a b ∧ (Ideal.atan2 (a : EReal) (b : EReal) = ((lineAngle (-b) (-a) - Real.pi : ℝ) : EReal)
        ∨ Ideal.atan2 (a : EReal) (b : EReal) = ((lineAngle (-b) (-a) + Real.pi : ℝ) : EReal))) := by
  have hd : (-a) / (-b) = a / b := neg_div_neg_eq a b
  have e : Ideal.atan2 (a : EReal) (b : EReal) = ((if 0 < b then Real.arctan (a / b)
      else if b < 0 then (if 0 ≤ a then Real.arctan (a / b) + Real.pi else Real.arctan (a / b) - Real.pi)
      else if 0 < a then Real.pi / 2 else if a < 0 then -(Real.pi / 2) else 0 : ℝ) : EReal) := rfl
  rw [e]
  unfold flipped lineAngle
  rw [hd]
  rcases lt_trichotomy b 0 with hb | hb | hb <;> rcases lt_trichotomy a 0 with ha | ha | ha
  · right; refine ⟨.inl ha, .inl ?_⟩
    simp [hb, hb.not_gt, ha.not_ge]
  · right; refine ⟨.inr ⟨ha, hb⟩, .inr ?_⟩
    subst ha; simp [hb, hb.not_gt]
  · left; refine ⟨by rintro (h | ⟨h, _⟩) <;> linarith, ?_⟩
    simp [hb, hb.not_gt, ha.le]
  · right; refine ⟨.inl ha, .inl ?_⟩
    subst hb; simp [ha, ha.not_gt]; norm_cast; try ring
  · subst ha hb; simp at h
  · left; refine ⟨by rintro (h | ⟨h, _⟩) <;> linarith, ?_⟩
    subst hb; simp [ha]
  · right; refine ⟨.inl ha, .inl ?_⟩
    simp [hb, hb.not_gt]
  · left; refine ⟨by rintro (h | ⟨_, h⟩) <;> linarith, ?_⟩
    simp [hb]
  · left; refine ⟨by rintro (h | ⟨h, _⟩) <;> linarith, ?_⟩
    simp [hb]

/-- The kernel's comparison for the `k`-th edge, at a point of the upper half plane. -/
def pastEdge (k : ℕ) (u v : ℝ) : Prop := if k ≤ 4 then u * slope k ≤ v else v ≤ u * slope k

/-- The number of the bin in which an angle of `[0, π)` lies. -/
def binOf (θ : ℝ) : ℤ := ⌊θ / Real.pi * 9⌋

/-- Off the edges, the kernel's comparison says whether the line's angle has reached the edge's. -/
theorem pastEdge_iff {u v : ℝ} (k : ℕ) (h1 : 1 ≤ k) (h8 : k ≤ 8) (hv : 0 ≤ v) (h0 : v = 0 → 0 < u)
    (h : tiny * |slope k * u| ≤ |v - slope k * u|) : pastEdge k u v ↔ (k : ℤ) ≤ binOf (lineAngle u v) := by
  have hp := Real.pi_pos
  have hk1 : (1 : ℝ) ≤ k := by exact_mod_cast h1
  have hk8 : (k : ℝ) ≤ 8 := by exact_mod_cast h8
  have hne : u ≠ 0 ∨ v ≠ 0 := by
    by_cases e : v = 0
    · exact .inl (h0 e).ne'
    · exact .inr e
  obtain ⟨s1, s2⟩ := side_iff (slope_near k h1 h8) h hne
  have hb : (k : ℤ) ≤ binOf (lineAngle u v) ↔ (k : ℝ) * Real.pi / 9 ≤ lineAngle u v := by
    unfold binOf
    rw [Int.le_floor, Int.cast_natCast, div_mul_eq_mul_div, le_div_iff₀ hp, div_le_iff₀ (by norm_num : (0 : ℝ) < 9)]
  rw [hb]
  unfold pastEdge
  split_ifs with h4
  · have hk4 : (k : ℝ) ≤ 4 := by exact_mod_cast h4
    rw [past_low hv h0 (by positivity) (by nlinarith), mul_comm u, s1]
  · have hk5 : (5 : ℝ) ≤ k := by exact_mod_cast (by omega : 5 ≤ k)
    rw [past_high hv h0 (by nlinarith) (by nlinarith), mul_comm u, s2]

/-- The bin of a line is one of 0 to 8. -/
theorem binOf_range {u v : ℝ} (hv : 0 ≤ v) (h0 : v = 0 → 0 < u) :
    0 ≤ binOf (lineAngle u v) ∧ binOf (lineAngle u v) ≤ 8 := by
  have hp := Real.pi_pos
  obtain ⟨h1, h2⟩ := lineAngle_range hv h0
  unfold binOf
  refine ⟨Int.floor_nonneg.mpr (by positivity), Int.lt_add_one_iff.mp (Int.floor_lt.mpr ?_)⟩
  rw [div_mul_eq_mul_div, div_lt_iff₀ hp]; push_cast; linarith

end Cert.Hog

end
-- ==== Proof.PixelIdeal.lean ====
/- One pixel: what it adds to each of the kernel's nine sums and to each of the reference's nine bins. -/
module

public import proofs.«01_k».proof.Proof.RefAt
public import proofs.«01_k».proof.Proof.Pixel

@[expose] public section

set_option maxRecDepth 16384

noncomputable section

namespace Cert.Hog

open Idealize.ShloMosaic

/-- The kernel's sign bit of a gradient. -/
def signBit (g h : EReal) : BitVec 1 :=
  IntOp.ori (BitVec.ofBool (decide (g < 0))) (IntOp.andi (BitVec.ofBool (decide (g = 0))) (BitVec.ofBool (decide (h < 0))))

/-- What a pixel with responses `g` and `h` adds to the kernel's sum `k`. -/
def kerPixel (k : Fin 9) (g h : EReal) : EReal :=
  steer k (Ideal.sqrt (g * g + h * h)) (Scalar.select (signBit g h) (0 - h) h) (Scalar.select (signBit g h) (0 - g) g)

/-- The sign bit says that the gradient lies in the lower half plane. -/
theorem signBit_real (a b : ℝ) : signBit (a : EReal) (b : EReal) = 1#1 ↔ flipped a b := by
  unfold signBit flipped
  have e1 : ((a : EReal) < 0) = (a < 0) := by rw [← EReal.coe_zero, EReal.coe_lt_coe_iff]
  have e2 : ((b : EReal) < 0) = (b < 0) := by rw [← EReal.coe_zero, EReal.coe_lt_coe_iff]
  have e3 : ((a : EReal) = 0) = (a = 0) := by rw [← EReal.coe_zero, EReal.coe_eq_coe_iff]
  simp only [e1, e2, e3]
  by_cases h1 : a < 0 <;> by_cases h2 : a = 0 <;> by_cases h3 : b < 0 <;> simp [h1, h2, h3] <;> decide

/-- The length of a real gradient. -/
theorem length_real (a b : ℝ) : Ideal.sqrt ((a : EReal) * a + (b : EReal) * b) = ((Real.sqrt (a * a + b * b) : ℝ) : EReal) := by
  rw [← EReal.coe_mul, ← EReal.coe_mul, ← EReal.coe_add, Ideal.sqrt_coe, if_neg (not_lt.2 (by nlinarith [mul_self_nonneg a, mul_self_nonneg b]))]

/-- A selection by a set bit. -/
theorem select_set {α : Type} {w : BitVec 1} (x y : α) (h : w = 1#1) : Scalar.select w x y = x := if_pos h
/-- A selection by a clear bit. -/
theorem select_clear {α : Type} {w : BitVec 1} (x y : α) (h : ¬ w = 1#1) : Scalar.select w x y = y := if_neg h

open Classical in
/-- The sums' summand in terms of the edges passed. -/
theorem steer_real (k : Fin 9) (n u v : ℝ) :
    steer k (n : EReal) (u : EReal) (v : EReal) = if k.val = 0 ∨ pastEdge k.val u v then ((n : ℝ) : EReal) else 0 := by
  match k with
  | 0 => simp [steer]
  | 1 => simp [steer, pastEdge, ofBits_slope1, ← EReal.coe_mul]
  | 2 => simp [steer, pastEdge, ofBits_slope2, ← EReal.coe_mul]
  | 3 => simp [steer, pastEdge, ofBits_slope3, ← EReal.coe_mul]
  | 4 => simp [steer, pastEdge, ofBits_slope4, ← EReal.coe_mul]
  | 5 => simp [steer, pastEdge, ofBits_slope5, ← EReal.coe_mul]
  | 6 => simp [steer, pastEdge, ofBits_slope6, ← EReal.coe_mul]
  | 7 => simp [steer, pastEdge, ofBits_slope7, ← EReal.coe_mul]
  | 8 => simp [steer, pastEdge, ofBits_slope8, ← EReal.coe_mul]

/-- The reference's bin of a whole number between -9 and 17. -/
theorem wrap_ofInt (n : ℤ) (h1 : -9 ≤ n) (h2 : n ≤ 17) : wrap (BitVec.ofInt 32 n) = BitVec.ofNat 32 (n % 9).toNat := by
  interval_cases n <;> decide

/-- The reference's number of bins. -/
theorem ofBits_nine : Ideal.ofBits .f32 1091567616#32 = ((9 : ℝ) : EReal) := by
  simp [Ideal.ofBits, Ideal.ieee]; rw [← EReal.coe_mul]; norm_num

/-- The angle of the negative axis is the reference's half turn. -/
theorem half_turn : Ideal.atan2 (Ideal.ofBits .f32 0#32) (Ideal.ofBits .f32 3212836864#32) = ((Real.pi : ℝ) : EReal) := by
  rw [ofBits_zero, ofBits_negOne]
  show Ideal.atan2 ((0 : ℝ) : EReal) ((-1 : ℝ) : EReal) = _
  show ((_ : ℝ) : EReal) = _
  norm_num

/-- The reference's word of a pixel whose angle is `θ`. -/
theorem rawBin_real (a b θ : ℝ) (e : Ideal.atan2 (a : EReal) (b : EReal) = ((θ : ℝ) : EReal)) (h1 : -9 ≤ ⌊θ / Real.pi * 9⌋) (h2 : ⌊θ / Real.pi * 9⌋ ≤ 17) :
    rawBin (a : EReal) (b : EReal) = BitVec.ofInt 32 ⌊θ / Real.pi * 9⌋ := by
  have hp := Real.pi_pos
  unfold rawBin
  rw [e, half_turn, ofBits_nine]
  have hd : Ideal.div ((θ : ℝ) : EReal) ((Real.pi : ℝ) : EReal) = ((θ / Real.pi : ℝ) : EReal) := by
    unfold Ideal.div
    rw [if_neg (by exact_mod_cast hp.ne'), ← EReal.coe_inv, ← EReal.coe_mul]; rfl
  rw [hd, ← EReal.coe_mul]
  show Ideal.fptosi 32 (((⌊θ / Real.pi * 9⌋ : ℤ) : ℝ) : EReal) = _
  generalize ⌊θ / Real.pi * 9⌋ = n at *
  unfold Ideal.fptosi
  congr 1
  show max _ (min _ (if 0 ≤ ((n : ℤ) : ℝ) then ⌊((n : ℤ) : ℝ)⌋ else ⌈((n : ℤ) : ℝ)⌉)) = n
  rw [Int.floor_intCast, Int.ceil_intCast, ite_self]
  norm_num
  omega

/-- A pixel clear of the edges, read by both programs: it has one bin `m` and one length `n`; the kernel adds the length to the
sums up to `m`, the reference to bin `m` alone. -/
theorem pixel_real (a b : ℝ) (h : ∀ k : ℕ, 1 ≤ k → k ≤ 8 → tiny * |slope k * b| ≤ |a - slope k * b|) :
    ∃ (m : ℕ) (n : ℝ), m ≤ 8 ∧ (∀ k : Fin 9, kerPixel k (a : EReal) (b : EReal) = ((if k.val ≤ m then n else 0 : ℝ) : EReal))
      ∧ (∀ k : Fin 9, refPixel k (a : EReal) (b : EReal) = ((if k.val = m then n else 0 : ℝ) : EReal)) := by
  have hp := Real.pi_pos
  by_cases hz : a = 0 ∧ b = 0
  · refine ⟨0, 0, by omega, fun k => ?_, fun k => ?_⟩
    · unfold kerPixel
      rw [length_real, hz.1, hz.2]
      have : signBit ((0 : ℝ) : EReal) ((0 : ℝ) : EReal) ≠ 1#1 := fun e => by
        have := (signBit_real 0 0).1 e
        simp [flipped] at this
      rw [select_clear _ _ this]
      rw [steer_real]; simp
    · unfold refPixel
      rw [length_real, hz.1, hz.2]
      simp [Scalar.select]
  have hne : a ≠ 0 ∨ b ≠ 0 := by by_contra hc; exact hz ⟨by_contra fun c => hc (.inl c), by_contra fun c => hc (.inr c)⟩
  -- the kernel's point of the upper half plane, and the reference's word
  obtain ⟨u, v, hu, hv, hv0, hvu, hedge, hraw⟩ : ∃ u v : ℝ, Scalar.select (signBit (a : EReal) b) (0 - (b : EReal)) b = ((u : ℝ) : EReal)
      ∧ Scalar.select (signBit (a : EReal) b) (0 - (a : EReal)) a = ((v : ℝ) : EReal) ∧ 0 ≤ v ∧ (v = 0 → 0 < u)
      ∧ (∀ k : ℕ, 1 ≤ k → k ≤ 8 → tiny * |slope k * u| ≤ |v - slope k * u|)
      ∧ ∃ z : ℤ, (z = 0 ∨ z = -9 ∨ z = 9) ∧ rawBin (a : EReal) b = BitVec.ofInt 32 (binOf (lineAngle u v) + z) := by
    rcases atan2_eq hne with ⟨hf, e⟩ | ⟨hf, e⟩
    · have hs : ¬ signBit (a : EReal) b = 1#1 := fun h' => hf ((signBit_real a b).1 h')
      have hva : 0 ≤ a := by by_contra hc; exact hf (.inl (not_le.1 hc))
      have hvb : a = 0 → 0 < b := fun h' => by
        rcases lt_trichotomy b 0 with hb | hb | hb
        · exact absurd (.inr ⟨h', hb⟩) hf
        · exact absurd ⟨h', hb⟩ hz
        · exact hb
      obtain ⟨r1, r2⟩ := binOf_range hva hvb
      refine ⟨b, a, select_clear _ _ hs, select_clear _ _ hs, hva, hvb, h, 0, .inl rfl, ?_⟩
      rw [add_zero]
      exact rawBin_real a b _ e (by unfold binOf at r1; omega) (by unfold binOf at r2; omega)
    · have hs : signBit (a : EReal) b = 1#1 := (signBit_real a b).2 hf
      have hva : 0 ≤ -a := by rcases hf with hc | ⟨hc, _⟩ <;> linarith
      have hvb : -a = 0 → 0 < -b := fun h' => by
        rcases hf with hc | ⟨_, hc⟩ <;> linarith
      obtain ⟨r1, r2⟩ := binOf_range hva hvb
      refine ⟨-b, -a, by rw [select_set _ _ hs, zero_sub, EReal.coe_neg], by rw [select_set _ _ hs, zero_sub, EReal.coe_neg],
        hva, hvb, fun k h1 h8 => ?_, ?_⟩
      · have := h k h1 h8
        rwa [mul_neg, abs_neg, show -a - -(slope k * b) = -(a - slope k * b) by ring, abs_neg]
      · rcases e with e | e
        · have eq : ⌊(lineAngle (-b) (-a) - Real.pi) / Real.pi * 9⌋ = binOf (lineAngle (-b) (-a)) + -9 := by
            unfold binOf
            rw [show (lineAngle (-b) (-a) - Real.pi) / Real.pi * 9 = lineAngle (-b) (-a) / Real.pi * 9 + ((-9 : ℤ) : ℝ) by
              push_cast; field_simp; ring, Int.floor_add_intCast]
          refine ⟨-9, .inr (.inl rfl), ?_⟩
          rw [← eq]
          exact rawBin_real a b _ e (by omega) (by omega)
        · have eq : ⌊(lineAngle (-b) (-a) + Real.pi) / Real.pi * 9⌋ = binOf (lineAngle (-b) (-a)) + 9 := by
            unfold binOf
            rw [show (lineAngle (-b) (-a) + Real.pi) / Real.pi * 9 = lineAngle (-b) (-a) / Real.pi * 9 + ((9 : ℤ) : ℝ) by
              push_cast; field_simp, Int.floor_add_intCast]
          refine ⟨9, .inr (.inr rfl), ?_⟩
          rw [← eq]
          exact rawBin_real a b _ e (by omega) (by omega)
  obtain ⟨z, hz9, hraw⟩ := hraw
  obtain ⟨r1, r2⟩ := binOf_range hv0 hvu
  obtain ⟨m, hm⟩ : ∃ m : ℕ, binOf (lineAngle u v) = m := ⟨_, (Int.toNat_of_nonneg r1).symm⟩
  refine ⟨m, Real.sqrt (a * a + b * b), by omega, fun k => ?_, fun k => ?_⟩
  · unfold kerPixel
    rw [hu, hv, length_real, steer_real]
    have hk : (k.val = 0 ∨ pastEdge k.val u v) ↔ k.val ≤ m := by
      by_cases h0 : k.val = 0
      · simp [h0]
      · rw [pastEdge_iff k.val (by omega) (by omega) hv0 hvu (hedge k.val (by omega) (by omega)), hm]
        omega
    by_cases h' : k.val ≤ m
    · rw [if_pos (hk.2 h'), if_pos h']
    · rw [if_neg (fun c => h' (hk.1 c)), if_neg h', EReal.coe_zero]
  · unfold refPixel
    rw [length_real, hraw, wrap_ofInt _ (by omega) (by omega), show ((binOf (lineAngle u v) + z) % 9).toNat = m by omega]
    have hc : IntOp.cmpi .eq (BitVec.ofNat 32 m) (BitVec.ofNat 32 k.val) = 1#1 ↔ k.val = m := by
      have h1 : m < 9 := by omega
      have h2 : k.val < 9 := k.isLt
      generalize k.val = j at *
      interval_cases m <;> interval_cases j <;> decide
    by_cases h' : k.val = m
    · rw [if_pos h']; rw [select_set _ _ (hc.2 h')]
    · rw [if_neg h']; rw [select_clear _ _ (fun c => h' (hc.1 c)), EReal.coe_zero]

end Cert.Hog

end
-- ==== Proof.MaskFacts.lean ====
/- The shapes that the set of compared results states: each holds by computation. -/
module

public import proofs.«01_k».proof.On_clear_of_edges
public import Idealize.ShloMosaic.Lib.Affine

@[expose] public section

set_option maxRecDepth 16384

namespace Cert.Hog

/-- Every shape that the compared set names fits. -/
instance maskFacts : Cert.On_clear_of_edges.Facts := by
  constructor <;> decide

end Cert.Hog
-- ==== Proof.Mask.lean ====
/- The mask, read at a cell: every one of its 49 pixels has real responses and is clear of the eight edges. -/
module

public import proofs.«01_k».proof.Proof.RefAt
public import proofs.«01_k».proof.Proof.Pixel
public import proofs.«01_k».proof.Proof.MaskFacts
public import Idealize.ShloMosaic.Lib.ReduceAll
public import Idealize.ShloMosaic.Lib.ValueIdxRank6

@[expose] public section

set_option maxRecDepth 16384

noncomputable section

namespace Cert.Hog

open Cert.On_clear_of_edges Idealize.ShloMosaic Idealize.ShloMosaic.TcCoe Idealize.SL.Sem Idealize.ShloMosaic.StableHlo

/-- A constant at every pixel. -/
def everywhere (w : BitVec 32) : FVec Ideal S32x3x224x224 .f32 :=
  broadcastInDim S32x3x224x224 ![] Facts.bcast_S_S32x3x224x224 (constant S_ .f32 w)

/-- The pixels clear of the edge with slope `w`. -/
def clearOf (g h : FVec Ideal S32x3x224x224 .f32) (w : BitVec 32) : IVec S32x3x224x224 1 :=
  cmpf .oge (Host.absf (subf g (mulf (everywhere w) h))) (mulf (everywhere 0x33D6BF95#32) (Host.absf (mulf (everywhere w) h)))

/-- The pixels with real responses, clear of all edges. -/
def clearAll (g h : FVec Ideal S32x3x224x224 .f32) : IVec S32x3x224x224 1 :=
  andi (andi (andi (andi (andi (andi (andi (andi (andi (cmpf .olt (Host.absf g) (everywhere 0x7F800000#32)) (cmpf .olt (Host.absf h) (everywhere 0x7F800000#32)))
    (clearOf g h 0x3EBA5A4E#32)) (clearOf g h 0x3F56CF3C#32)) (clearOf g h 0x3FDDB3D7#32)) (clearOf g h 0x40B57B24#32))
    (clearOf g h 0xC0B57B24#32)) (clearOf g h 0xBFDDB3D7#32)) (clearOf g h 0xBF56CF3C#32)) (clearOf g h 0xBEBA5A4E#32)

/-- The mask: the cells all of whose pixels are clear, for all nine bins alike. -/
theorem fn_eq (V0 : Valuation Cert.ReferenceIdeal.τ Cert.ReferenceIdeal.sig (Elt Ideal)) :
    fn (F := Ideal) (refIn V0) = broadcastInDim S96x9x32x32 ![0, 1, 2, 3] Facts.bcast_S96x1x32x32_S96x9x32x32_0_1_2_3
      (Host.reduce IntOp.andi (shapeCast S96x1x32x7x32x7
        (clearAll (Cert.ReferenceIdeal.Value.res_main_v36 V0) (Cert.ReferenceIdeal.Value.res_main_v71 V0)) Facts.shapeCasts_S32x3x224x224_S96x1x32x7x32x7)
        (constantI S_ 1 1#1) Facts.reducesTo_S96x1x32x7x32x7_S96x1x32x32_d3_5 Facts.h_S_) := by
  with_unfolding_all rfl

/-- One edge at one pixel, as a word. -/
def clearBit (w : BitVec 32) (g h : EReal) : BitVec 1 :=
  Ideal.cmp .oge (max (g - Ideal.ofBits .f32 w * h) (-(g - Ideal.ofBits .f32 w * h)))
    (Ideal.ofBits .f32 0x33D6BF95#32 * max (Ideal.ofBits .f32 w * h) (-(Ideal.ofBits .f32 w * h)))

/-- Finiteness at one pixel, as a word. -/
def finiteBit (g : EReal) : BitVec 1 := Ideal.cmp .olt (max g (-g)) (Ideal.ofBits .f32 0x7F800000#32)

/-- The conditions at one pixel depend on its two responses alone. -/
theorem clearAll_apply (g h : FVec Ideal S32x3x224x224 .f32) (i : S32x3x224x224.Idx) : clearAll g h i =
    IntOp.andi (IntOp.andi (IntOp.andi (IntOp.andi (IntOp.andi (IntOp.andi (IntOp.andi (IntOp.andi (IntOp.andi (finiteBit (g i)) (finiteBit (h i)))
      (clearBit 0x3EBA5A4E#32 (g i) (h i))) (clearBit 0x3F56CF3C#32 (g i) (h i))) (clearBit 0x3FDDB3D7#32 (g i) (h i))) (clearBit 0x40B57B24#32 (g i) (h i)))
      (clearBit 0xC0B57B24#32 (g i) (h i))) (clearBit 0xBFDDB3D7#32 (g i) (h i))) (clearBit 0xBF56CF3C#32 (g i) (h i))) (clearBit 0xBEBA5A4E#32 (g i) (h i)) := rfl

/-- A set bit comes from a true condition. -/
theorem ofBool_one {b : Bool} (h : BitVec.ofBool b = 1#1) : b = true := by revert h; cases b <;> decide

/-- The mask's infinity. -/
theorem ofBits_infinity : Ideal.ofBits .f32 0x7F800000#32 = ⊤ := by
  simp [Ideal.ofBits, Ideal.ieee]

/-- A response below infinity in size is a number. -/
theorem finiteBit_real {g : EReal} (h : finiteBit g = 1#1) : ∃ a : ℝ, g = a := by
  have h1 : max g (-g) < ⊤ := by
    have := of_decide_eq_true (ofBool_one h)
    rwa [ofBits_infinity] at this
  induction g with
  | bot => simp at h1
  | top => simp at h1
  | coe a => exact ⟨a, rfl⟩

/-- What one edge's word says of numbers. -/
theorem clearBit_real {w : BitVec 32} {T a b : ℝ} (hT : Ideal.ofBits .f32 w = ((T : ℝ) : EReal)) (h : clearBit w (a : EReal) (b : EReal) = 1#1) :
    tiny * |T * b| ≤ |a - T * b| := by
  have h1 := of_decide_eq_true (ofBool_one h)
  rw [hT, ofBits_tiny, ← EReal.coe_mul, ← EReal.coe_sub, ← EReal.coe_neg, ← EReal.coe_neg] at h1
  have hm (x : ℝ) : max (x : EReal) ((-x : ℝ) : EReal) = ((|x| : ℝ) : EReal) :=
    (Monotone.map_max (fun _ _ h => EReal.coe_le_coe_iff.2 h) : ((max x (-x) : ℝ) : EReal) = _).symm
  rw [hm, hm, ← EReal.coe_mul, EReal.coe_le_coe_iff] at h1
  exact h1

/-- Where the mask is set, every pixel of the cell has real responses that are clear of the eight edges. -/
theorem clear_pixels (V0 : Valuation Cert.ReferenceIdeal.τ Cert.ReferenceIdeal.sig (Elt Ideal)) (n : Fin 96) (k : Fin 9) (r q : Fin 32)
    (h : fn (F := Ideal) (refIn V0) (ix4 n k r q) = 1#1) (p s : Fin 7) :
    ∃ a b : ℝ, refGx (img (refIn V0) ⟨n.val / 3, by omega⟩ ⟨n.val % 3, by omega⟩) ⟨7 * r.val + p.val, by omega⟩ ⟨7 * q.val + s.val, by omega⟩ = (a : EReal)
      ∧ refGy (img (refIn V0) ⟨n.val / 3, by omega⟩ ⟨n.val % 3, by omega⟩) ⟨7 * r.val + p.val, by omega⟩ ⟨7 * q.val + s.val, by omega⟩ = (b : EReal)
      ∧ ∀ k : ℕ, 1 ≤ k → k ≤ 8 → tiny * |slope k * b| ≤ |a - slope k * b| := by
  rw [fn_eq] at h
  have h1 := Host.reduce_andi_eq_one _ _ _ _ _ h (ix6 n 0 r p q s) (by
    funext a; match a with | ⟨0, _⟩ => rfl | ⟨1, _⟩ => rfl | ⟨2, _⟩ => rfl | ⟨3, _⟩ => rfl)
  rw [shapeCast_apply _ _ _ (ix4 ⟨n.val / 3, by omega⟩ ⟨n.val % 3, by omega⟩ ⟨7 * r.val + p.val, by omega⟩ ⟨7 * q.val + s.val, by omega⟩) (by
      rw [Shape.rowMajor_val_six, Shape.rowMajor_val_four]
      show ((n.val / 3 * 3 + n.val % 3) * 224 + (7 * r.val + p.val)) * 224 + (7 * q.val + s.val)
        = ((((n.val * 1 + 0) * 32 + r.val) * 7 + p.val) * 32 + q.val) * 7 + s.val
      omega), clearAll_apply, gx_apply, gy_apply] at h1
  simp only [IntOp.andi_eq_one] at h1
  obtain ⟨⟨⟨⟨⟨⟨⟨⟨⟨fa, fb⟩, c1⟩, c2⟩, c3⟩, c4⟩, c5⟩, c6⟩, c7⟩, c8⟩ := h1
  obtain ⟨a, ha⟩ := finiteBit_real fa
  obtain ⟨b, hb⟩ := finiteBit_real fb
  rw [ha, hb] at c1 c2 c3 c4 c5 c6 c7 c8
  refine ⟨a, b, ha, hb, fun k h1 h8 => ?_⟩
  interval_cases k
  · exact clearBit_real ofBits_slope1 c1
  · exact clearBit_real ofBits_slope2 c2
  · exact clearBit_real ofBits_slope3 c3
  · exact clearBit_real ofBits_slope4 c4
  · exact clearBit_real ofBits_slope5 c5
  · exact clearBit_real ofBits_slope6 c6
  · exact clearBit_real ofBits_slope7 c7
  · exact clearBit_real ofBits_slope8 c8

end Cert.Hog

end
-- ==== Proof.Equation.lean ====
/- The two results agree at every cell of the mask. -/
module

public import proofs.«01_k».proof.Proof.GradEq
public import proofs.«01_k».proof.Proof.PixelIdeal
public import proofs.«01_k».proof.Proof.Mask

@[expose] public section

set_option maxRecDepth 16384

noncomputable section

namespace Cert.Hog

open Cert.KernelIdeal Cert.KernelIdeal.Gen Idealize.ShloMosaic Idealize.ShloMosaic.TcCoe Idealize.SL.Sem

/-- A row of 224 against a column of the pooling matrix: the seven entries of the cell. -/
theorem sum_seven (f : Fin 224 → EReal) (c : Fin 32) :
    ∑ j : Fin 224, f j * (tabP (ix2 j c) : EReal) = ∑ s : Fin 7, f ⟨7 * c.val + s.val, by omega⟩ := by
  have h : ∀ j : Fin 224, f j * (tabP (ix2 j c) : EReal) = if j.val / 7 = c.val then f j else 0 := fun j => by
    rw [tabP_apply]; split <;> simp
  rw [Finset.sum_congr rfl fun j _ => h j, ← Finset.sum_filter]
  refine Finset.sum_bij' (fun j _ => ⟨j.val % 7, by omega⟩) (fun s _ => ⟨7 * c.val + s.val, by omega⟩) (fun _ _ => Finset.mem_univ _)
    (fun s _ => Finset.mem_filter.2 ⟨Finset.mem_univ _, ?_⟩) (fun j hj => ?_) (fun s _ => ?_) (fun j hj => ?_)
  · show (7 * c.val + s.val) / 7 = c.val; omega
  · have := (Finset.mem_filter.1 hj).2; apply Fin.ext; show 7 * c.val + j.val % 7 = j.val; omega
  · apply Fin.ext; show (7 * c.val + s.val) % 7 = s.val; omega
  · have := (Finset.mem_filter.1 hj).2; congr 1; apply Fin.ext; show j.val = 7 * c.val + j.val % 7; omega

/-- The two products with the pooling matrix add up the 49 pixels of the cell. -/
theorem pooled_eq (t : Fin 224 → Fin 224 → EReal) (c r : Fin 32) :
    pooled t tabP c r = ∑ p : Fin 7, ∑ s : Fin 7, t ⟨7 * r.val + p.val, by omega⟩ ⟨7 * c.val + s.val, by omega⟩ := by
  unfold pooled
  rw [sum_seven (fun i => ∑ j : Fin 224, t i j * (tabP (ix2 j c) : EReal)) r]
  exact Finset.sum_congr rfl fun p _ => sum_seven _ c

/-- The kernel's length at a pixel. -/
theorem length_apply (x : FVec Ideal S1x224x224 .f32) (i j : Fin 224) : (k0_pay6 (F := Ideal) x tabA tabB (ix2 i j) : EReal)
    = Ideal.sqrt ((k0_pay4 (F := Ideal) x tabA (ix2 i j) : EReal) * k0_pay4 (F := Ideal) x tabA (ix2 i j)
      + (k0_pay5 (F := Ideal) x tabB (ix2 i j) : EReal) * k0_pay5 (F := Ideal) x tabB (ix2 i j)) := by
  pointwise [k0_pay6]

/-- The kernel's first coordinate at a pixel, turned into the upper half plane. -/
theorem across_apply (x : FVec Ideal S1x224x224 .f32) (i j : Fin 224) : (k0_pay8 (F := Ideal) x tabA tabB (ix2 i j) : EReal)
    = Scalar.select (signBit (k0_pay4 (F := Ideal) x tabA (ix2 i j)) (k0_pay5 (F := Ideal) x tabB (ix2 i j)))
      (0 - (k0_pay5 (F := Ideal) x tabB (ix2 i j) : EReal)) (k0_pay5 (F := Ideal) x tabB (ix2 i j)) := by
  pointwise [k0_pay8, k0_pay7]
  rfl

/-- The kernel's second coordinate at a pixel, turned into the upper half plane. -/
theorem up_apply (x : FVec Ideal S1x224x224 .f32) (i j : Fin 224) : (k0_pay9 (F := Ideal) x tabA tabB (ix2 i j) : EReal)
    = Scalar.select (signBit (k0_pay4 (F := Ideal) x tabA (ix2 i j)) (k0_pay5 (F := Ideal) x tabB (ix2 i j)))
      (0 - (k0_pay4 (F := Ideal) x tabA (ix2 i j) : EReal)) (k0_pay4 (F := Ideal) x tabA (ix2 i j)) := by
  pointwise [k0_pay9, k0_pay7]
  rfl

/-- A sum of the kernel: over the 49 pixels of the cell. -/
theorem sums_apply (X : FVec Ideal S32x3x224x224 .f32) (n : Fin 96) (k : Fin 9) (c r : Fin 32) :
    (sums X n (ix2 (row k c) r) : EReal) = ∑ p : Fin 7, ∑ s : Fin 7,
      kerPixel k (k0_pay4 (F := Ideal) (image X n) tabA (ix2 ⟨7 * r.val + p.val, by omega⟩ ⟨7 * c.val + s.val, by omega⟩))
        (k0_pay5 (F := Ideal) (image X n) tabB (ix2 ⟨7 * r.val + p.val, by omega⟩ ⟨7 * c.val + s.val, by omega⟩)) := by
  unfold sums
  rw [imgQ_apply, pooled_eq]
  refine Finset.sum_congr rfl fun p _ => Finset.sum_congr rfl fun s _ => ?_
  rw [length_apply, across_apply, up_apply]
  rfl

/-- A sum of numbers, as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over nine, written out. -/
theorem sum_nine {M : Type} [AddCommMonoid M] (f : Fin 9 → M) :
    ∑ x : Fin 9, f x = f 0 + f 1 + f 2 + f 3 + f 4 + f 5 + f 6 + f 7 + f 8 := by
  simp only [Fin.sum_univ_castSucc, Fin.sum_univ_zero, zero_add]
  rfl

/-- The reference's small bound as a number. -/
theorem ofBits_eps : Ideal.ofBits .f32 730643660#32 = ((2305843 / 2305843009213693952 : ℝ) : EReal) := by
  simp [Ideal.ofBits, Ideal.ieee]; rw [← EReal.coe_mul]; norm_num

/-- Scaling by the smaller reciprocal is dividing by the larger length. -/
theorem normalize (R : Fin 9 → ℝ) (w : Fin 9 → EReal) (hw : ∀ k, w k = ((R k : ℝ) : EReal)) (k : Fin 9) :
    w k * scale w = Ideal.div (w k) (max (Ideal.sqrt (∑ x : Fin 9, w x * w x)) (Ideal.ofBits .f32 730643660#32)) := by
  have hmin (x y : ℝ) : min (x : EReal) (y : EReal) = ((min x y : ℝ) : EReal) :=
    (Monotone.map_min (fun _ _ h => EReal.coe_le_coe_iff.2 h) : ((min x y : ℝ) : EReal) = _).symm
  have hmax (x y : ℝ) : max (x : EReal) (y : EReal) = ((max x y : ℝ) : EReal) :=
    (Monotone.map_max (fun _ _ h => EReal.coe_le_coe_iff.2 h) : ((max x y : ℝ) : EReal) = _).symm
  have hA : ∑ x : Fin 9, w x * w x = ((∑ x : Fin 9, R x * R x : ℝ) : EReal) := by
    rw [coe_sum]
    exact Finset.sum_congr rfl fun x _ => by rw [hw, EReal.coe_mul]
  have hA0 : 0 ≤ ∑ x : Fin 9, R x * R x := Finset.sum_nonneg fun x _ => mul_self_nonneg _
  unfold scale
  rw [← sum_nine (fun x => w x * w x), hA, IdealRules.named_const.ideal_named_scalar _ _ _ _ rfl, ofBits_eps, hw k]
  rw [Ideal.sqrt_coe, if_neg (not_lt.2 hA0), hmax]
  have hpos : (0 : ℝ) < max (Real.sqrt (∑ x : Fin 9, R x * R x)) (2305843 / 2305843009213693952) := lt_max_of_lt_right (by norm_num)
  unfold Ideal.div
  rw [if_neg (by exact_mod_cast hpos.ne'), ← EReal.coe_inv, ← EReal.coe_mul]
  rcases hA0.eq_or_lt with h0 | h0
  · have hk : R k = 0 := by
      have := (Finset.sum_eq_zero_iff_of_nonneg (fun x _ => mul_self_nonneg (R x))).1 h0.symm k (Finset.mem_univ _)
      exact mul_self_eq_zero.1 this
    rw [hk]; simp
  · rw [Ideal.rsqrt_coe, if_neg (not_lt.2 h0.le), if_neg h0.ne', hmin, ← EReal.coe_mul]
    congr 2
    have hs := Real.sqrt_pos.2 h0
    rw [show (2305843009213693952 / 2305843 : ℝ) = (2305843 / 2305843009213693952)⁻¹ by norm_num]
    rcases le_total (Real.sqrt (∑ x : Fin 9, R x * R x)) (2305843 / 2305843009213693952) with h | h
    · rw [max_eq_right h, min_eq_right ((inv_le_inv₀ (by norm_num) hs).2 h)]
    · rw [max_eq_left h, min_eq_left ((inv_le_inv₀ hs (by norm_num)).2 h)]

/-- The kernel's bin is the difference of two sums. -/
theorem cell_real (q : FVec Ideal S288x32 .f32) (c r : Fin 32) (S R : Fin 9 → ℝ) (hS : ∀ k, (q (ix2 (row k c) r) : EReal) = ((S k : ℝ) : EReal))
    (h : ∀ k l : Fin 9, l.val = k.val + 1 → S k - S l = R k) (h8 : S 8 = R 8) (k : Fin 9) : cell q c r k = ((R k : ℝ) : EReal) := by
  match k with
  | 0 => show (q (ix2 (row 0 c) r) : EReal) - q (ix2 (row 1 c) r) = _; rw [hS, hS, ← EReal.coe_sub, h 0 1 rfl]
  | 1 => show (q (ix2 (row 1 c) r) : EReal) - q (ix2 (row 2 c) r) = _; rw [hS, hS, ← EReal.coe_sub, h 1 2 rfl]
  | 2 => show (q (ix2 (row 2 c) r) : EReal) - q (ix2 (row 3 c) r) = _; rw [hS, hS, ← EReal.coe_sub, h 2 3 rfl]
  | 3 => show (q (ix2 (row 3 c) r) : EReal) - q (ix2 (row 4 c) r) = _; rw [hS, hS, ← EReal.coe_sub, h 3 4 rfl]
  | 4 => show (q (ix2 (row 4 c) r) : EReal) - q (ix2 (row 5 c) r) = _; rw [hS, hS, ← EReal.coe_sub, h 4 5 rfl]
  | 5 => show (q (ix2 (row 5 c) r) : EReal) - q (ix2 (row 6 c) r) = _; rw [hS, hS, ← EReal.coe_sub, h 5 6 rfl]
  | 6 => show (q (ix2 (row 6 c) r) : EReal) - q (ix2 (row 7 c) r) = _; rw [hS, hS, ← EReal.coe_sub, h 6 7 rfl]
  | 7 => show (q (ix2 (row 7 c) r) : EReal) - q (ix2 (row 8 c) r) = _; rw [hS, hS, ← EReal.coe_sub, h 7 8 rfl]
  | 8 => show (q (ix2 (row 8 c) r) : EReal) = _; rw [hS, h8]

/-- The kernel's result is the reference's wherever the mask is set. -/
theorem results_eq (V0 : Valuation Cert.ReferenceIdeal.τ Cert.ReferenceIdeal.sig (Elt Ideal)) (n : Fin 96) (k : Fin 9) (r q : Fin 32)
    (h : Cert.On_clear_of_edges.fn (F := Ideal) (refIn V0) (ix4 n k r q) = 1#1) :
    (final (refIn V0) (ix4 n k r q) : EReal) = refOut (Cert.ReferenceIdeal.Value.res_main_v94 V0) (ix4 n k r q) := by
  have hpix := clear_pixels V0 n k r q h
  choose a b ha hb hclear using hpix
  choose m len hm hker href using fun p s => pixel_real (a p s) (b p s) (hclear p s)
  have hplane : plane (image (refIn V0) n) = img (refIn V0) ⟨n.val / 3, by omega⟩ ⟨n.val % 3, by omega⟩ := rfl
  have hresp : ∀ p s : Fin 7,
      (k0_pay4 (F := Ideal) (image (refIn V0) n) tabA (ix2 ⟨7 * r.val + p.val, by omega⟩ ⟨7 * q.val + s.val, by omega⟩) : EReal) = a p s
      ∧ (k0_pay5 (F := Ideal) (image (refIn V0) n) tabB (ix2 ⟨7 * r.val + p.val, by omega⟩ ⟨7 * q.val + s.val, by omega⟩) : EReal) = b p s := fun p s => by
    have := responses_eq (image (refIn V0) n) ⟨7 * r.val + p.val, by omega⟩ ⟨7 * q.val + s.val, by omega⟩
      (by rw [hplane]; exact ⟨_, ha p s⟩) (by rw [hplane]; exact ⟨_, hb p s⟩)
    rw [hplane, ha, hb] at this
    exact this
  -- the sums of the kernel and of the reference over the cell
  let S : Fin 9 → ℝ := fun k => ∑ p : Fin 7, ∑ s : Fin 7, if k.val ≤ m p s then len p s else 0
  let R : Fin 9 → ℝ := fun k => ∑ p : Fin 7, ∑ s : Fin 7, if k.val = m p s then len p s else 0
  have hS : ∀ k : Fin 9, (sums (refIn V0) n (ix2 (row k q) r) : EReal) = ((S k : ℝ) : EReal) := fun k => by
    rw [sums_apply]
    show _ = ((∑ p : Fin 7, ∑ s : Fin 7, _ : ℝ) : EReal)
    rw [coe_sum]
    refine Finset.sum_congr rfl fun p _ => ?_
    rw [coe_sum]
    refine Finset.sum_congr rfl fun s _ => ?_
    rw [(hresp p s).1, (hresp p s).2, hker]
  have hR : ∀ k : Fin 9, ((Cert.ReferenceIdeal.Value.res_main_v94 V0 : FVec Ideal Cert.ReferenceIdeal.S32x3x9x32x32 .f32)
      (ix5 ⟨n.val / 3, by omega⟩ ⟨n.val % 3, by omega⟩ k r q) : EReal) = ((R k : ℝ) : EReal) := fun k => by
    rw [v94_apply]
    show _ = ((∑ p : Fin 7, ∑ s : Fin 7, _ : ℝ) : EReal)
    rw [coe_sum]
    refine Finset.sum_congr rfl fun p _ => ?_
    rw [coe_sum]
    refine Finset.sum_congr rfl fun s _ => ?_
    rw [ha, hb, href]
  have hcell : ∀ k, cell (sums (refIn V0) n) q r k = ((R k : ℝ) : EReal) := by
    refine cell_real _ q r S R hS (fun k l hl => ?_) ?_
    · show (∑ p : Fin 7, ∑ s : Fin 7, _ : ℝ) - (∑ p : Fin 7, ∑ s : Fin 7, _ : ℝ) = ∑ p : Fin 7, ∑ s : Fin 7, _
      rw [← Finset.sum_sub_distrib]
      refine Finset.sum_congr rfl fun p _ => ?_
      rw [← Finset.sum_sub_distrib]
      refine Finset.sum_congr rfl fun s _ => ?_
      rw [hl]
      by_cases h1 : k.val = m p s
      · rw [if_pos h1.le, if_neg (by omega), if_pos h1, sub_zero]
      · by_cases h2 : k.val ≤ m p s
        · rw [if_pos h2, if_pos (by omega), if_neg h1, sub_self]
        · rw [if_neg h2, if_neg (by omega), if_neg h1, sub_self]
    · refine Finset.sum_congr rfl fun p _ => Finset.sum_congr rfl fun s _ => ?_
      have := hm p s
      show (if (8 : ℕ) ≤ m p s then len p s else 0) = if (8 : ℕ) = m p s then len p s else 0
      by_cases h2 : 8 ≤ m p s
      · rw [if_pos h2, if_pos (by omega)]
      · rw [if_neg h2, if_neg (by omega)]
  rw [refOut_apply]
  show cell (sums (refIn V0) n) q r k * scale (cell (sums (refIn V0) n) q r) = _
  rw [normalize R _ hcell k, hcell, hR]
  refine congrArg (fun t => Ideal.div _ (max (Ideal.sqrt t) _)) (Finset.sum_congr rfl fun x _ => ?_)
  rw [hcell, hR]

end Cert.Hog

end
-- ==== Proof.Algebraic.lean ====
/- The two programs end with equal results wherever the mask is set. -/
module

public import proofs.«01_k».proof.Defs
public import proofs.«01_k».proof.Proof.Basics
public import proofs.«01_k».proof.Proof.Equation
public import proofs.«01_k».proof.Proof.Gen.ReferenceIdeal.Run

@[expose] public section

set_option maxRecDepth 16384

noncomputable section

namespace Cert.Hog

open Idealize.ShloMosaic Idealize.ShloMosaic.TcCoe Idealize.SL.Sem

/-- The kernel's and the reference's results agree at every index that the mask selects. -/
theorem algebraic : Cert.algebraic_KernelIdeal_ReferenceIdeal_on_clear_of_edges := by
  intro m ρ m' ρ' _ hagree
  refine ⟨_, (θ_run _ _ _).mono (fun r h c => ⟨fun i _ => congrFun (h c).1 i, (h c).2⟩) (run_final m ρ), ?_⟩
  refine (θ_run _ _ _).mono (fun r h c => ⟨fun i hi => (congrFun (h c).1 i).trans ?_, (h c).2⟩) (Cert.ReferenceIdeal.Value.run (F := Ideal) m' ρ')
  rw [← hagree c] at hi ⊢
  obtain ⟨n, k, r, q, rfl⟩ : ∃ (n : Fin 96) (k : Fin 9) (r q : Fin 32), i = ix4 n k r q := ⟨i 0, i 1, i 2, i 3, eq_ix4 i⟩
  exact (results_eq (StableHlo.launchContents m' c) n k r q hi).symm

end Cert.Hog

end
-- ==== Proof.lean ====
module

public import proofs.«01_k».proof.Defs
public import proofs.«01_k».proof.Proof.Basics
public import proofs.«01_k».proof.Proof.Algebraic
public import proofs.«01_k».proof.Proof.Gen.KernelIdeal.Value

@[expose] public section

noncomputable section

namespace Cert.Proof

open Idealize.ShloMosaic

/-- Everything the certificate claims. -/
theorem claim : Cert.Claim := ⟨Cert.Kernel.Gen.facts, Cert.KernelIdeal.Gen.facts, Cert.ReferenceIdeal.Gen.facts, Cert.Hog.maskFacts,
  Cert.Hog.frame_kernel, Cert.Hog.frame_kernelIdeal, Cert.Hog.frame_referenceIdeal, Cert.Hog.preserves, Cert.Hog.algebraic⟩

end Cert.Proof

end
